-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_guide_in_unit [hPre_guide_in_unit : Cert.Pre_guide_in_unit.Facts] (m : (ℓ : Loc Cert.KernelIdeal.nD Cert.KernelIdeal.τ Cert.KernelIdeal.sig) → Buf (Elt Ideal) ℓ) : Prop :=
  ∀ c : Dev Cert.KernelIdeal.nD,
    (Cert.Pre_guide_in_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_guide_in_unit [hPre_guide_in_unit : Cert.Pre_guide_in_unit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_guide_in_unit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_guide_in_unit [hKernelIdeal : Cert.KernelIdeal.Facts] [hPre_guide_in_unit : Cert.Pre_guide_in_unit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_guide_in_unit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_guide_in_unit [hReferenceIdeal : Cert.ReferenceIdeal.Facts] [hPre_guide_in_unit : Cert.Pre_guide_in_unit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_guide_in_unit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_guide_in_unit [hKernelIdeal : Cert.KernelIdeal.Facts] [hReferenceIdeal : Cert.ReferenceIdeal.Facts] [hPre_guide_in_unit : Cert.Pre_guide_in_unit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_guide_in_unit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v532) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_guide_in_unit : Cert.Pre_guide_in_unit.Facts),
    quiescent_Kernel (hKernel := hKernel)
    ∧ quiescent_KernelIdeal (hKernelIdeal := hKernelIdeal)
    ∧ quiescent_KernelIdeal_pre_guide_in_unit (hKernelIdeal := hKernelIdeal) (hPre_guide_in_unit := hPre_guide_in_unit)
    ∧ quiescent_ReferenceIdeal (hReferenceIdeal := hReferenceIdeal)
    ∧ quiescent_ReferenceIdeal_pre_guide_in_unit (hReferenceIdeal := hReferenceIdeal) (hPre_guide_in_unit := hPre_guide_in_unit)
    ∧ preserves_Kernel_KernelIdeal
    ∧ algebraic_KernelIdeal_ReferenceIdeal_pre_guide_in_unit (hKernelIdeal := hKernelIdeal) (hReferenceIdeal := hReferenceIdeal) (hPre_guide_in_unit := hPre_guide_in_unit)
-- ==== Pre_guide_in_unit.lean ====
abbrev S4x12x8x16x16 : Shape := ⟨5, ![4, 12, 8, 16, 16]⟩
abbrev S4x512x512 : Shape := ⟨3, ![4, 512, 512]⟩
abbrev S4x3x512x512 : Shape := ⟨4, ![4, 3, 512, 512]⟩
abbrev S_ : Shape := ⟨0, ![]⟩

class Facts : Prop where
  bcast_S_S4x512x512 : S_.BroadcastsInDim S4x512x512 (![] : Fin 0 → Fin S4x512x512.rank)

variable [Facts]

def fn {F : FTy → Type} [FloatOps F] (main_arg0 : FVec F S4x12x8x16x16 .f32) (main_arg1 : FVec F S4x512x512 .f32) (main_arg2 : FVec F S4x3x512x512 .f32) : IVec S4x512x512 1 :=
  let main_cst : FVec F S_ .f32 := constant S_ .f32 0x00000000#32
  let main_v0 : FVec F S4x512x512 .f32 := broadcastInDim S4x512x512 ![] bcast_S_S4x512x512 main_cst
  let main_v1 : IVec S4x512x512 1 := cmpf .oge main_arg1 main_v0
  let main_cst_0 : FVec F S_ .f32 := constant S_ .f32 0x3F800000#32
  let main_v2 : FVec F S4x512x512 .f32 := broadcastInDim S4x512x512 ![] bcast_S_S4x512x512 main_cst_0
  let main_v3 : IVec S4x512x512 1 := cmpf .ole main_arg1 main_v2
  let main_v4 : IVec S4x512x512 1 := andi main_v1 main_v3
  main_v4
-- ==== Kernel.lean ====
abbrev S4x12x8x16x16 : Shape := ⟨5, ![4, 12, 8, 16, 16]⟩
abbrev S4x512x512 : Shape := ⟨3, ![4, 512, 512]⟩
abbrev S4x3x512x512 : Shape := ⟨4, ![4, 3, 512, 512]⟩
abbrev S512 : Shape := ⟨1, ![512]⟩
abbrev S_ : Shape := ⟨0, ![]⟩
abbrev S16 : Shape := ⟨1, ![16]⟩
abbrev S1x16 : Shape := ⟨2, ![1, 16]⟩
abbrev S512x1 : Shape := ⟨2, ![512, 1]⟩
abbrev S512x16 : Shape := ⟨2, ![512, 16]⟩
abbrev S1 : Shape := ⟨1, ![1]⟩
abbrev S16x512 : Shape := ⟨2, ![16, 512]⟩
abbrev S8x8 : Shape := ⟨2, ![8, 8]⟩
abbrev S8x1x8x1 : Shape := ⟨4, ![8, 1, 8, 1]⟩
abbrev S1x16x1x512 : Shape := ⟨4, ![1, 16, 1, 512]⟩
abbrev S8x16x8x512 : Shape := ⟨4, ![8, 16, 8, 512]⟩
abbrev S128x4096 : Shape := ⟨2, ![128, 4096]⟩
abbrev S4x16x12x8x16 : Shape := ⟨5, ![4, 16, 12, 8, 16]⟩
abbrev S4x16x1536 : Shape := ⟨3, ![4, 16, 1536]⟩
abbrev S1x16x1536 : Shape := ⟨3, ![1, 16, 1536]⟩
abbrev S1x128x512 : Shape := ⟨3, ![1, 128, 512]⟩
abbrev S1x3x128x512 : Shape := ⟨4, ![1, 3, 128, 512]⟩
abbrev S16x1536 : Shape := ⟨2, ![16, 1536]⟩
abbrev S128x16 : Shape := ⟨2, ![128, 16]⟩
abbrev S128x1536 : Shape := ⟨2, ![128, 1536]⟩
abbrev S128x512 : Shape := ⟨2, ![128, 512]⟩
abbrev S3x128x512 : Shape := ⟨3, ![3, 128, 512]⟩
abbrev S128x128 : Shape := ⟨2, ![128, 128]⟩
abbrev S1x1x128x512 : Shape := ⟨4, ![1, 1, 128, 512]⟩

abbrev nBuf : Space → Nat
  | .hbm => 62
  | .vmem => 9
  | .smem => 0
  | _ => 0

abbrev bufTy : (tb : Table) → Fin (tcTables nBuf tb) → BufTy
  | .hbm, ⟨0, _⟩ => ⟨S4x12x8x16x16, .f32⟩
  | .hbm, ⟨1, _⟩ => ⟨S4x512x512, .f32⟩
  | .hbm, ⟨2, _⟩ => ⟨S4x3x512x512, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S16, .f32⟩
  | .hbm, ⟨11, _⟩ => ⟨S1x16, .f32⟩
  | .hbm, ⟨12, _⟩ => ⟨S_, .f32⟩
  | .hbm, ⟨13, _⟩ => ⟨S1x16, .f32⟩
  | .hbm, ⟨14, _⟩ => ⟨S1x16, .f32⟩
  | .hbm, ⟨15, _⟩ => ⟨S512x1, .f32⟩
  | .hbm, ⟨16, _⟩ => ⟨S512x16, .f32⟩
  | .hbm, ⟨17, _⟩ => ⟨S512x16, .f32⟩
  | .hbm, ⟨18, _⟩ => ⟨S512x16, .f32⟩
  | .hbm, ⟨19, _⟩ => ⟨S512x16, .f32⟩
  | .hbm, ⟨20, _⟩ => ⟨S_, .f32⟩
  | .hbm, ⟨21, _⟩ => ⟨S512x16, .f32⟩
  | .hbm, ⟨22, _⟩ => ⟨S512x16, .f32⟩
  | .hbm, ⟨23, _⟩ => ⟨S_, .f32⟩
  | .hbm, ⟨24, _⟩ => ⟨S512x16, .f32⟩
  | .hbm, ⟨25, _⟩ => ⟨S512x16, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S_, .i32⟩
  | .hbm, ⟨33, _⟩ => ⟨S1, .i32⟩
  | .hbm, ⟨34, _⟩ => ⟨S512x16, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S_, .i32⟩
  | .hbm, ⟨42, _⟩ => ⟨S1, .i32⟩
  | .hbm, ⟨43, _⟩ => ⟨S512x16, .f32⟩
  | .hbm, ⟨44, _⟩ => ⟨S16x512, .f32⟩
  | .hbm, ⟨45, _⟩ => ⟨S8x8, .i32⟩
  | .hbm, ⟨46, _⟩ => ⟨S8x8, .i32⟩
  | .hbm, ⟨47, _⟩ => ⟨S_, .i32⟩
  | .hbm, ⟨48, _⟩ => ⟨S8x8, .i32⟩
  | .hbm, ⟨49, _⟩ => ⟨S8x8, .i32⟩
  | .hbm, ⟨50, _⟩ => ⟨S8x8, .i1⟩
  | .hbm, ⟨51, _⟩ => ⟨S8x8, .f32⟩
  | .hbm, ⟨52, _⟩ => ⟨S8x1x8x1, .f32⟩
  | .hbm, ⟨53, _⟩ => ⟨S1x16x1x512, .f32⟩
  | .hbm, ⟨54, _⟩ => ⟨S8x16x8x512, .f32⟩
  | .hbm, ⟨55, _⟩ => ⟨S8x16x8x512, .f32⟩
  | .hbm, ⟨56, _⟩ => ⟨S8x16x8x512, .f32⟩
  | .hbm, ⟨57, _⟩ => ⟨S128x4096, .f32⟩
  | .hbm, ⟨58, _⟩ => ⟨S128x4096, .bf16⟩
  | .hbm, ⟨59, _⟩ => ⟨S4x16x12x8x16, .f32⟩
  | .hbm, ⟨60, _⟩ => ⟨S4x16x1536, .f32⟩
  | .hbm, ⟨61, _⟩ => ⟨S4x3x512x512, .f32⟩
  | .local _ .vmem, ⟨0, _⟩ => ⟨S1x16x1536, .f32⟩
  | .local _ .vmem, ⟨1, _⟩ => ⟨S1x16x1536, .f32⟩
  | .local _ .vmem, ⟨2, _⟩ => ⟨S128x4096, .bf16⟩
  | .local _ .vmem, ⟨3, _⟩ => ⟨S1x128x512, .f32⟩
  | .local _ .vmem, ⟨4, _⟩ => ⟨S1x128x512, .f32⟩
  | .local _ .vmem, ⟨5, _⟩ => ⟨S1x3x128x512, .f32⟩
  | .local _ .vmem, ⟨6, _⟩ => ⟨S1x3x128x512, .f32⟩
  | .local _ .vmem, ⟨7, _⟩ => ⟨S1x3x128x512, .f32⟩
  | .local _ .vmem, ⟨8, _⟩ => ⟨S1x3x128x512, .f32⟩
  | _, _ => ⟨S4x12x8x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x12x8x16x16 : Shape := ⟨5, ![4, 12, 8, 16, 16]⟩
abbrev S4x512x512 : Shape := ⟨3, ![4, 512, 512]⟩
abbrev S4x3x512x512 : Shape := ⟨4, ![4, 3, 512, 512]⟩
abbrev S512 : Shape := ⟨1, ![512]⟩
abbrev S_ : Shape := ⟨0, ![]⟩
abbrev S4x8x16x16x12 : Shape := ⟨5, ![4, 8, 16, 16, 12]⟩
abbrev S4 : Shape := ⟨1, ![4]⟩
abbrev S4x1x1 : Shape := ⟨3, ![4, 1, 1]⟩
abbrev S4x512x512x12 : Shape := ⟨4, ![4, 512, 512, 12]⟩
abbrev S1x512x1 : Shape := ⟨3, ![1, 512, 1]⟩
abbrev S1x1x512 : Shape := ⟨3, ![1, 1, 512]⟩
abbrev S4x512x512x1 : Shape := ⟨4, ![4, 512, 512, 1]⟩
abbrev S4x512x512x4 : Shape := ⟨4, ![4, 512, 512, 4]⟩
abbrev S4x512x512x3x4 : Shape := ⟨5, ![4, 512, 512, 3, 4]⟩
abbrev S4x512x512x3 : Shape := ⟨4, ![4, 512, 512, 3]⟩
abbrev S4x512x512x3x3 : Shape := ⟨5, ![4, 512, 512, 3, 3]⟩
abbrev S4x512x512x3x1 : Shape := ⟨5, ![4, 512, 512, 3, 1]⟩

abbrev nBuf : Space → Nat
  | .hbm => 765
  | .vmem => 0
  | .smem => 0
  | _ => 0

abbrev hbmTy0_0 (i : Nat) : BufTy := match i % 128 with
  | 0 => ⟨S4x12x8x16x16, .f32⟩
  | 1 => ⟨S4x512x512, .f32⟩
  | 2 => ⟨S4x3x512x512, .f32⟩
  | 3 => ⟨S512, .f32⟩
  | 4 => ⟨S_, .f32⟩
  | 5 => ⟨S512, .f32⟩
  | 6 => ⟨S512, .f32⟩
  | 7 => ⟨S_, .f32⟩
  | 8 => ⟨S512, .f32⟩
  | 9 => ⟨S512, .f32⟩
  | 10 => ⟨S_, .f32⟩
  | 11 => ⟨S512, .f32⟩
  | 12 => ⟨S512, .f32⟩
  | 13 => ⟨S512, .f32⟩
  | 14 => ⟨S_, .f32⟩
  | 15 => ⟨S512, .f32⟩
  | 16 => ⟨S512, .f32⟩
  | 17 => ⟨S_, .f32⟩
  | 18 => ⟨S512, .f32⟩
  | 19 => ⟨S512, .f32⟩
  | 20 => ⟨S_, .f32⟩
  | 21 => ⟨S512, .f32⟩
  | 22 => ⟨S512, .f32⟩
  | 23 => ⟨S_, .f32⟩
  | 24 => ⟨S4x512x512, .f32⟩
  | 25 => ⟨S4x512x512, .f32⟩
  | 26 => ⟨S_, .f32⟩
  | 27 => ⟨S512, .f32⟩
  | 28 => ⟨S512, .f32⟩
  | 29 => ⟨S512, .f32⟩
  | 30 => ⟨S_, .f32⟩
  | 31 => ⟨S512, .f32⟩
  | 32 => ⟨S512, .f32⟩
  | 33 => ⟨S512, .f32⟩
  | 34 => ⟨S_, .f32⟩
  | 35 => ⟨S4x512x512, .f32⟩
  | 36 => ⟨S4x512x512, .f32⟩
  | 37 => ⟨S4x512x512, .f32⟩
  | 38 => ⟨S4x8x16x16x12, .f32⟩
  | 39 => ⟨S4, .i32⟩
  | 40 => ⟨S4x1x1, .i32⟩
  | 41 => ⟨S_, .f32⟩
  | 42 => ⟨S4x512x512x12, .f32⟩
  | 43 => ⟨S_, .f32⟩
  | 44 => ⟨S4x512x512, .f32⟩
  | 45 => ⟨S4x512x512, .f32⟩
  | 46 => ⟨S_, .f32⟩
  | 47 => ⟨S4x512x512, .f32⟩
  | 48 => ⟨S4x512x512, .f32⟩
  | 49 => ⟨S4x512x512, .f32⟩
  | 50 => ⟨S4x512x512, .f32⟩
  | 51 => ⟨S_, .f32⟩
  | 52 => ⟨S4x512x512, .f32⟩
  | 53 => ⟨S4x512x512, .f32⟩
  | 54 => ⟨S_, .f32⟩
  | 55 => ⟨S4x512x512, .f32⟩
  | 56 => ⟨S4x512x512, .f32⟩
  | 57 => ⟨S_, .i32⟩
  | 58 => ⟨S_, .i32⟩
  | 59 => ⟨S_, .f32⟩
  | 60 => ⟨S4x512x512, .f32⟩
  | 61 => ⟨S4x512x512, .f32⟩
  | 62 => ⟨S_, .f32⟩
  | 63 => ⟨S4x512x512, .f32⟩
  | 64 => ⟨S4x512x512, .f32⟩
  | 65 => ⟨S4x512x512, .i32⟩
  | 66 => ⟨S_, .f32⟩
  | 67 => ⟨S512, .f32⟩
  | 68 => ⟨S512, .f32⟩
  | 69 => ⟨S_, .f32⟩
  | 70 => ⟨S512, .f32⟩
  | 71 => ⟨S512, .f32⟩
  | 72 => ⟨S512, .f32⟩
  | 73 => ⟨S512, .f32⟩
  | 74 => ⟨S_, .f32⟩
  | 75 => ⟨S512, .f32⟩
  | 76 => ⟨S512, .f32⟩
  | 77 => ⟨S_, .f32⟩
  | 78 => ⟨S512, .f32⟩
  | 79 => ⟨S512, .f32⟩
  | 80 => ⟨S_, .i32⟩
  | 81 => ⟨S_, .i32⟩
  | 82 => ⟨S_, .f32⟩
  | 83 => ⟨S512, .f32⟩
  | 84 => ⟨S512, .f32⟩
  | 85 => ⟨S_, .f32⟩
  | 86 => ⟨S512, .f32⟩
  | 87 => ⟨S512, .f32⟩
  | 88 => ⟨S512, .i32⟩
  | 89 => ⟨S_, .f32⟩
  | 90 => ⟨S512, .f32⟩
  | 91 => ⟨S512, .f32⟩
  | 92 => ⟨S_, .f32⟩
  | 93 => ⟨S512, .f32⟩
  | 94 => ⟨S512, .f32⟩
  | 95 => ⟨S512, .f32⟩
  | 96 => ⟨S512, .f32⟩
  | 97 => ⟨S_, .f32⟩
  | 98 => ⟨S512, .f32⟩
  | 99 => ⟨S512, .f32⟩
  | 100 => ⟨S_, .f32⟩
  | 101 => ⟨S512, .f32⟩
  | 102 => ⟨S512, .f32⟩
  | 103 => ⟨S_, .i32⟩
  | 104 => ⟨S_, .i32⟩
  | 105 => ⟨S_, .f32⟩
  | 106 => ⟨S512, .f32⟩
  | 107 => ⟨S512, .f32⟩
  | 108 => ⟨S_, .f32⟩
  | 109 => ⟨S512, .f32⟩
  | 110 => ⟨S512, .f32⟩
  | 111 => ⟨S512, .i32⟩
  | 112 => ⟨S1x512x1, .i32⟩
  | 113 => ⟨S1x1x512, .i32⟩
  | 114 => ⟨S_, .i32⟩
  | 115 => ⟨S4x1x1, .i32⟩
  | 116 => ⟨S4x1x1, .i1⟩
  | 117 => ⟨S_, .i32⟩
  | 118 => ⟨S4x1x1, .i32⟩
  | 119 => ⟨S4x1x1, .i32⟩
  | 120 => ⟨S4x1x1, .i32⟩
  | 121 => ⟨S_, .i32⟩
  | 122 => ⟨S4x512x512, .i32⟩
  | 123 => ⟨S4x512x512, .i1⟩
  | 124 => ⟨S_, .i32⟩
  | 125 => ⟨S4x512x512, .i32⟩
  | 126 => ⟨S4x512x512, .i32⟩
  | 127 => ⟨S4x512x512, .i32⟩
  | _ => ⟨S4x12x8x16x16, .f32⟩

abbrev hbmTy0_1 (i : Nat) : BufTy := match i % 128 with
  | 0 => ⟨S_, .i32⟩
  | 1 => ⟨S1x512x1, .i32⟩
  | 2 => ⟨S1x512x1, .i1⟩
  | 3 => ⟨S_, .i32⟩
  | 4 => ⟨S1x512x1, .i32⟩
  | 5 => ⟨S1x512x1, .i32⟩
  | 6 => ⟨S1x512x1, .i32⟩
  | 7 => ⟨S_, .i32⟩
  | 8 => ⟨S1x1x512, .i32⟩
  | 9 => ⟨S1x1x512, .i1⟩
  | 10 => ⟨S_, .i32⟩
  | 11 => ⟨S1x1x512, .i32⟩
  | 12 => ⟨S1x1x512, .i32⟩
  | 13 => ⟨S1x1x512, .i32⟩
  | 14 => ⟨S4x512x512, .i32⟩
  | 15 => ⟨S4x512x512, .i32⟩
  | 16 => ⟨S4x512x512, .i32⟩
  | 17 => ⟨S4x512x512x1, .i32⟩
  | 18 => ⟨S4x512x512x1, .i32⟩
  | 19 => ⟨S4x512x512x1, .i32⟩
  | 20 => ⟨S4x512x512x1, .i32⟩
  | 21 => ⟨S4x512x512x4, .i32⟩
  | 22 => ⟨S4x512x512x12, .f32⟩
  | 23 => ⟨S1x512x1, .f32⟩
  | 24 => ⟨S4x512x512, .f32⟩
  | 25 => ⟨S4x512x512, .f32⟩
  | 26 => ⟨S1x1x512, .f32⟩
  | 27 => ⟨S4x512x512, .f32⟩
  | 28 => ⟨S4x512x512, .f32⟩
  | 29 => ⟨S4x512x512x1, .f32⟩
  | 30 => ⟨S4x512x512x12, .f32⟩
  | 31 => ⟨S4x512x512x12, .f32⟩
  | 32 => ⟨S4x512x512x12, .f32⟩
  | 33 => ⟨S_, .f32⟩
  | 34 => ⟨S512, .f32⟩
  | 35 => ⟨S512, .f32⟩
  | 36 => ⟨S_, .f32⟩
  | 37 => ⟨S512, .f32⟩
  | 38 => ⟨S512, .f32⟩
  | 39 => ⟨S512, .f32⟩
  | 40 => ⟨S512, .f32⟩
  | 41 => ⟨S_, .f32⟩
  | 42 => ⟨S512, .f32⟩
  | 43 => ⟨S512, .f32⟩
  | 44 => ⟨S_, .f32⟩
  | 45 => ⟨S512, .f32⟩
  | 46 => ⟨S512, .f32⟩
  | 47 => ⟨S_, .i32⟩
  | 48 => ⟨S_, .i32⟩
  | 49 => ⟨S_, .f32⟩
  | 50 => ⟨S512, .f32⟩
  | 51 => ⟨S512, .f32⟩
  | 52 => ⟨S_, .f32⟩
  | 53 => ⟨S512, .f32⟩
  | 54 => ⟨S512, .f32⟩
  | 55 => ⟨S512, .i32⟩
  | 56 => ⟨S1x512x1, .i32⟩
  | 57 => ⟨S1x1x512, .i32⟩
  | 58 => ⟨S_, .i32⟩
  | 59 => ⟨S4x1x1, .i32⟩
  | 60 => ⟨S4x1x1, .i1⟩
  | 61 => ⟨S_, .i32⟩
  | 62 => ⟨S4x1x1, .i32⟩
  | 63 => ⟨S4x1x1, .i32⟩
  | 64 => ⟨S4x1x1, .i32⟩
  | 65 => ⟨S_, .i32⟩
  | 66 => ⟨S4x512x512, .i32⟩
  | 67 => ⟨S4x512x512, .i1⟩
  | 68 => ⟨S_, .i32⟩
  | 69 => ⟨S4x512x512, .i32⟩
  | 70 => ⟨S4x512x512, .i32⟩
  | 71 => ⟨S4x512x512, .i32⟩
  | 72 => ⟨S_, .i32⟩
  | 73 => ⟨S1x512x1, .i32⟩
  | 74 => ⟨S1x512x1, .i1⟩
  | 75 => ⟨S_, .i32⟩
  | 76 => ⟨S1x512x1, .i32⟩
  | 77 => ⟨S1x512x1, .i32⟩
  | 78 => ⟨S1x512x1, .i32⟩
  | 79 => ⟨S_, .i32⟩
  | 80 => ⟨S1x1x512, .i32⟩
  | 81 => ⟨S1x1x512, .i1⟩
  | 82 => ⟨S_, .i32⟩
  | 83 => ⟨S1x1x512, .i32⟩
  | 84 => ⟨S1x1x512, .i32⟩
  | 85 => ⟨S1x1x512, .i32⟩
  | 86 => ⟨S4x512x512, .i32⟩
  | 87 => ⟨S4x512x512, .i32⟩
  | 88 => ⟨S4x512x512, .i32⟩
  | 89 => ⟨S4x512x512x1, .i32⟩
  | 90 => ⟨S4x512x512x1, .i32⟩
  | 91 => ⟨S4x512x512x1, .i32⟩
  | 92 => ⟨S4x512x512x1, .i32⟩
  | 93 => ⟨S4x512x512x4, .i32⟩
  | 94 => ⟨S4x512x512x12, .f32⟩
  | 95 => ⟨S1x512x1, .f32⟩
  | 96 => ⟨S4x512x512, .f32⟩
  | 97 => ⟨S4x512x512, .f32⟩
  | 98 => ⟨S1x1x512, .f32⟩
  | 99 => ⟨S4x512x512, .f32⟩
  | 100 => ⟨S4x512x512, .f32⟩
  | 101 => ⟨S4x512x512x1, .f32⟩
  | 102 => ⟨S4x512x512x12, .f32⟩
  | 103 => ⟨S4x512x512x12, .f32⟩
  | 104 => ⟨S4x512x512x12, .f32⟩
  | 105 => ⟨S_, .f32⟩
  | 106 => ⟨S512, .f32⟩
  | 107 => ⟨S512, .f32⟩
  | 108 => ⟨S_, .f32⟩
  | 109 => ⟨S512, .f32⟩
  | 110 => ⟨S512, .f32⟩
  | 111 => ⟨S512, .f32⟩
  | 112 => ⟨S512, .f32⟩
  | 113 => ⟨S_, .f32⟩
  | 114 => ⟨S512, .f32⟩
  | 115 => ⟨S512, .f32⟩
  | 116 => ⟨S_, .f32⟩
  | 117 => ⟨S512, .f32⟩
  | 118 => ⟨S512, .f32⟩
  | 119 => ⟨S_, .i32⟩
  | 120 => ⟨S_, .i32⟩
  | 121 => ⟨S_, .f32⟩
  | 122 => ⟨S512, .f32⟩
  | 123 => ⟨S512, .f32⟩
  | 124 => ⟨S_, .f32⟩
  | 125 => ⟨S512, .f32⟩
  | 126 => ⟨S512, .f32⟩
  | 127 => ⟨S512, .i32⟩
  | _ => ⟨S4x12x8x16x16, .f32⟩

abbrev hbmTy0_2 (i : Nat) : BufTy := match i % 128 with
  | 0 => ⟨S_, .f32⟩
  | 1 => ⟨S512, .f32⟩
  | 2 => ⟨S512, .f32⟩
  | 3 => ⟨S_, .f32⟩
  | 4 => ⟨S512, .f32⟩
  | 5 => ⟨S512, .f32⟩
  | 6 => ⟨S512, .f32⟩
  | 7 => ⟨S512, .f32⟩
  | 8 => ⟨S_, .f32⟩
  | 9 => ⟨S512, .f32⟩
  | 10 => ⟨S512, .f32⟩
  | 11 => ⟨S_, .f32⟩
  | 12 => ⟨S512, .f32⟩
  | 13 => ⟨S512, .f32⟩
  | 14 => ⟨S_, .i32⟩
  | 15 => ⟨S_, .i32⟩
  | 16 => ⟨S_, .f32⟩
  | 17 => ⟨S512, .f32⟩
  | 18 => ⟨S512, .f32⟩
  | 19 => ⟨S_, .f32⟩
  | 20 => ⟨S512, .f32⟩
  | 21 => ⟨S512, .f32⟩
  | 22 => ⟨S512, .i32⟩
  | 23 => ⟨S1x512x1, .i32⟩
  | 24 => ⟨S1x1x512, .i32⟩
  | 25 => ⟨S_, .i32⟩
  | 26 => ⟨S4x1x1, .i32⟩
  | 27 => ⟨S4x1x1, .i1⟩
  | 28 => ⟨S_, .i32⟩
  | 29 => ⟨S4x1x1, .i32⟩
  | 30 => ⟨S4x1x1, .i32⟩
  | 31 => ⟨S4x1x1, .i32⟩
  | 32 => ⟨S_, .i32⟩
  | 33 => ⟨S4x512x512, .i32⟩
  | 34 => ⟨S4x512x512, .i1⟩
  | 35 => ⟨S_, .i32⟩
  | 36 => ⟨S4x512x512, .i32⟩
  | 37 => ⟨S4x512x512, .i32⟩
  | 38 => ⟨S4x512x512, .i32⟩
  | 39 => ⟨S_, .i32⟩
  | 40 => ⟨S1x512x1, .i32⟩
  | 41 => ⟨S1x512x1, .i1⟩
  | 42 => ⟨S_, .i32⟩
  | 43 => ⟨S1x512x1, .i32⟩
  | 44 => ⟨S1x512x1, .i32⟩
  | 45 => ⟨S1x512x1, .i32⟩
  | 46 => ⟨S_, .i32⟩
  | 47 => ⟨S1x1x512, .i32⟩
  | 48 => ⟨S1x1x512, .i1⟩
  | 49 => ⟨S_, .i32⟩
  | 50 => ⟨S1x1x512, .i32⟩
  | 51 => ⟨S1x1x512, .i32⟩
  | 52 => ⟨S1x1x512, .i32⟩
  | 53 => ⟨S4x512x512, .i32⟩
  | 54 => ⟨S4x512x512, .i32⟩
  | 55 => ⟨S4x512x512, .i32⟩
  | 56 => ⟨S4x512x512x1, .i32⟩
  | 57 => ⟨S4x512x512x1, .i32⟩
  | 58 => ⟨S4x512x512x1, .i32⟩
  | 59 => ⟨S4x512x512x1, .i32⟩
  | 60 => ⟨S4x512x512x4, .i32⟩
  | 61 => ⟨S4x512x512x12, .f32⟩
  | 62 => ⟨S1x512x1, .f32⟩
  | 63 => ⟨S4x512x512, .f32⟩
  | 64 => ⟨S4x512x512, .f32⟩
  | 65 => ⟨S1x1x512, .f32⟩
  | 66 => ⟨S4x512x512, .f32⟩
  | 67 => ⟨S4x512x512, .f32⟩
  | 68 => ⟨S4x512x512x1, .f32⟩
  | 69 => ⟨S4x512x512x12, .f32⟩
  | 70 => ⟨S4x512x512x12, .f32⟩
  | 71 => ⟨S4x512x512x12, .f32⟩
  | 72 => ⟨S_, .f32⟩
  | 73 => ⟨S512, .f32⟩
  | 74 => ⟨S512, .f32⟩
  | 75 => ⟨S_, .f32⟩
  | 76 => ⟨S512, .f32⟩
  | 77 => ⟨S512, .f32⟩
  | 78 => ⟨S512, .f32⟩
  | 79 => ⟨S512, .f32⟩
  | 80 => ⟨S_, .f32⟩
  | 81 => ⟨S512, .f32⟩
  | 82 => ⟨S512, .f32⟩
  | 83 => ⟨S_, .f32⟩
  | 84 => ⟨S512, .f32⟩
  | 85 => ⟨S512, .f32⟩
  | 86 => ⟨S_, .i32⟩
  | 87 => ⟨S_, .i32⟩
  | 88 => ⟨S_, .f32⟩
  | 89 => ⟨S512, .f32⟩
  | 90 => ⟨S512, .f32⟩
  | 91 => ⟨S_, .f32⟩
  | 92 => ⟨S512, .f32⟩
  | 93 => ⟨S512, .f32⟩
  | 94 => ⟨S512, .i32⟩
  | 95 => ⟨S1x512x1, .i32⟩
  | 96 => ⟨S1x1x512, .i32⟩
  | 97 => ⟨S_, .i32⟩
  | 98 => ⟨S4x1x1, .i32⟩
  | 99 => ⟨S4x1x1, .i1⟩
  | 100 => ⟨S_, .i32⟩
  | 101 => ⟨S4x1x1, .i32⟩
  | 102 => ⟨S4x1x1, .i32⟩
  | 103 => ⟨S4x1x1, .i32⟩
  | 104 => ⟨S_, .i32⟩
  | 105 => ⟨S4x512x512, .i32⟩
  | 106 => ⟨S4x512x512, .i1⟩
  | 107 => ⟨S_, .i32⟩
  | 108 => ⟨S4x512x512, .i32⟩
  | 109 => ⟨S4x512x512, .i32⟩
  | 110 => ⟨S4x512x512, .i32⟩
  | 111 => ⟨S_, .i32⟩
  | 112 => ⟨S1x512x1, .i32⟩
  | 113 => ⟨S1x512x1, .i1⟩
  | 114 => ⟨S_, .i32⟩
  | 115 => ⟨S1x512x1, .i32⟩
  | 116 => ⟨S1x512x1, .i32⟩
  | 117 => ⟨S1x512x1, .i32⟩
  | 118 => ⟨S_, .i32⟩
  | 119 => ⟨S1x1x512, .i32⟩
  | 120 => ⟨S1x1x512, .i1⟩
  | 121 => ⟨S_, .i32⟩
  | 122 => ⟨S1x1x512, .i32⟩
  | 123 => ⟨S1x1x512, .i32⟩
  | 124 => ⟨S1x1x512, .i32⟩
  | 125 => ⟨S4x512x512, .i32⟩
  | 126 => ⟨S4x512x512, .i32⟩
  | 127 => ⟨S4x512x512, .i32⟩
  | _ => ⟨S4x12x8x16x16, .f32⟩

abbrev hbmTy0_3 (i : Nat) : BufTy := match i % 128 with
  | 0 => ⟨S4x512x512x1, .i32⟩
  | 1 => ⟨S4x512x512x1, .i32⟩
  | 2 => ⟨S4x512x512x1, .i32⟩
  | 3 => ⟨S4x512x512x1, .i32⟩
  | 4 => ⟨S4x512x512x4, .i32⟩
  | 5 => ⟨S4x512x512x12, .f32⟩
  | 6 => ⟨S1x512x1, .f32⟩
  | 7 => ⟨S4x512x512, .f32⟩
  | 8 => ⟨S4x512x512, .f32⟩
  | 9 => ⟨S1x1x512, .f32⟩
  | 10 => ⟨S4x512x512, .f32⟩
  | 11 => ⟨S4x512x512, .f32⟩
  | 12 => ⟨S4x512x512x1, .f32⟩
  | 13 => ⟨S4x512x512x12, .f32⟩
  | 14 => ⟨S4x512x512x12, .f32⟩
  | 15 => ⟨S4x512x512x12, .f32⟩
  | 16 => ⟨S_, .f32⟩
  | 17 => ⟨S4x512x512, .f32⟩
  | 18 => ⟨S4x512x512, .f32⟩
  | 19 => ⟨S_, .f32⟩
  | 20 => ⟨S4x512x512, .f32⟩
  | 21 => ⟨S4x512x512, .f32⟩
  | 22 => ⟨S4x512x512, .f32⟩
  | 23 => ⟨S4x512x512, .f32⟩
  | 24 => ⟨S_, .f32⟩
  | 25 => ⟨S4x512x512, .f32⟩
  | 26 => ⟨S4x512x512, .f32⟩
  | 27 => ⟨S_, .f32⟩
  | 28 => ⟨S4x512x512, .f32⟩
  | 29 => ⟨S4x512x512, .f32⟩
  | 30 => ⟨S_, .i32⟩
  | 31 => ⟨S_, .i32⟩
  | 32 => ⟨S_, .f32⟩
  | 33 => ⟨S4x512x512, .f32⟩
  | 34 => ⟨S4x512x512, .f32⟩
  | 35 => ⟨S_, .f32⟩
  | 36 => ⟨S4x512x512, .f32⟩
  | 37 => ⟨S4x512x512, .f32⟩
  | 38 => ⟨S4x512x512, .i32⟩
  | 39 => ⟨S_, .f32⟩
  | 40 => ⟨S512, .f32⟩
  | 41 => ⟨S512, .f32⟩
  | 42 => ⟨S_, .f32⟩
  | 43 => ⟨S512, .f32⟩
  | 44 => ⟨S512, .f32⟩
  | 45 => ⟨S512, .f32⟩
  | 46 => ⟨S512, .f32⟩
  | 47 => ⟨S_, .f32⟩
  | 48 => ⟨S512, .f32⟩
  | 49 => ⟨S512, .f32⟩
  | 50 => ⟨S_, .f32⟩
  | 51 => ⟨S512, .f32⟩
  | 52 => ⟨S512, .f32⟩
  | 53 => ⟨S_, .i32⟩
  | 54 => ⟨S_, .i32⟩
  | 55 => ⟨S_, .f32⟩
  | 56 => ⟨S512, .f32⟩
  | 57 => ⟨S512, .f32⟩
  | 58 => ⟨S_, .f32⟩
  | 59 => ⟨S512, .f32⟩
  | 60 => ⟨S512, .f32⟩
  | 61 => ⟨S512, .i32⟩
  | 62 => ⟨S_, .f32⟩
  | 63 => ⟨S512, .f32⟩
  | 64 => ⟨S512, .f32⟩
  | 65 => ⟨S_, .f32⟩
  | 66 => ⟨S512, .f32⟩
  | 67 => ⟨S512, .f32⟩
  | 68 => ⟨S512, .f32⟩
  | 69 => ⟨S512, .f32⟩
  | 70 => ⟨S_, .f32⟩
  | 71 => ⟨S512, .f32⟩
  | 72 => ⟨S512, .f32⟩
  | 73 => ⟨S_, .f32⟩
  | 74 => ⟨S512, .f32⟩
  | 75 => ⟨S512, .f32⟩
  | 76 => ⟨S_, .i32⟩
  | 77 => ⟨S_, .i32⟩
  | 78 => ⟨S_, .f32⟩
  | 79 => ⟨S512, .f32⟩
  | 80 => ⟨S512, .f32⟩
  | 81 => ⟨S_, .f32⟩
  | 82 => ⟨S512, .f32⟩
  | 83 => ⟨S512, .f32⟩
  | 84 => ⟨S512, .i32⟩
  | 85 => ⟨S1x512x1, .i32⟩
  | 86 => ⟨S1x1x512, .i32⟩
  | 87 => ⟨S_, .i32⟩
  | 88 => ⟨S4x1x1, .i32⟩
  | 89 => ⟨S4x1x1, .i1⟩
  | 90 => ⟨S_, .i32⟩
  | 91 => ⟨S4x1x1, .i32⟩
  | 92 => ⟨S4x1x1, .i32⟩
  | 93 => ⟨S4x1x1, .i32⟩
  | 94 => ⟨S_, .i32⟩
  | 95 => ⟨S4x512x512, .i32⟩
  | 96 => ⟨S4x512x512, .i1⟩
  | 97 => ⟨S_, .i32⟩
  | 98 => ⟨S4x512x512, .i32⟩
  | 99 => ⟨S4x512x512, .i32⟩
  | 100 => ⟨S4x512x512, .i32⟩
  | 101 => ⟨S_, .i32⟩
  | 102 => ⟨S1x512x1, .i32⟩
  | 103 => ⟨S1x512x1, .i1⟩
  | 104 => ⟨S_, .i32⟩
  | 105 => ⟨S1x512x1, .i32⟩
  | 106 => ⟨S1x512x1, .i32⟩
  | 107 => ⟨S1x512x1, .i32⟩
  | 108 => ⟨S_, .i32⟩
  | 109 => ⟨S1x1x512, .i32⟩
  | 110 => ⟨S1x1x512, .i1⟩
  | 111 => ⟨S_, .i32⟩
  | 112 => ⟨S1x1x512, .i32⟩
  | 113 => ⟨S1x1x512, .i32⟩
  | 114 => ⟨S1x1x512, .i32⟩
  | 115 => ⟨S4x512x512, .i32⟩
  | 116 => ⟨S4x512x512, .i32⟩
  | 117 => ⟨S4x512x512, .i32⟩
  | 118 => ⟨S4x512x512x1, .i32⟩
  | 119 => ⟨S4x512x512x1, .i32⟩
  | 120 => ⟨S4x512x512x1, .i32⟩
  | 121 => ⟨S4x512x512x1, .i32⟩
  | 122 => ⟨S4x512x512x4, .i32⟩
  | 123 => ⟨S4x512x512x12, .f32⟩
  | 124 => ⟨S1x512x1, .f32⟩
  | 125 => ⟨S4x512x512, .f32⟩
  | 126 => ⟨S4x512x512, .f32⟩
  | 127 => ⟨S1x1x512, .f32⟩
  | _ => ⟨S4x12x8x16x16, .f32⟩

abbrev hbmTy0_4 (i : Nat) : BufTy := match i % 128 with
  | 0 => ⟨S4x512x512, .f32⟩
  | 1 => ⟨S4x512x512, .f32⟩
  | 2 => ⟨S4x512x512x1, .f32⟩
  | 3 => ⟨S4x512x512x12, .f32⟩
  | 4 => ⟨S4x512x512x12, .f32⟩
  | 5 => ⟨S4x512x512x12, .f32⟩
  | 6 => ⟨S_, .f32⟩
  | 7 => ⟨S512, .f32⟩
  | 8 => ⟨S512, .f32⟩
  | 9 => ⟨S_, .f32⟩
  | 10 => ⟨S512, .f32⟩
  | 11 => ⟨S512, .f32⟩
  | 12 => ⟨S512, .f32⟩
  | 13 => ⟨S512, .f32⟩
  | 14 => ⟨S_, .f32⟩
  | 15 => ⟨S512, .f32⟩
  | 16 => ⟨S512, .f32⟩
  | 17 => ⟨S_, .f32⟩
  | 18 => ⟨S512, .f32⟩
  | 19 => ⟨S512, .f32⟩
  | 20 => ⟨S_, .i32⟩
  | 21 => ⟨S_, .i32⟩
  | 22 => ⟨S_, .f32⟩
  | 23 => ⟨S512, .f32⟩
  | 24 => ⟨S512, .f32⟩
  | 25 => ⟨S_, .f32⟩
  | 26 => ⟨S512, .f32⟩
  | 27 => ⟨S512, .f32⟩
  | 28 => ⟨S512, .i32⟩
  | 29 => ⟨S1x512x1, .i32⟩
  | 30 => ⟨S1x1x512, .i32⟩
  | 31 => ⟨S_, .i32⟩
  | 32 => ⟨S4x1x1, .i32⟩
  | 33 => ⟨S4x1x1, .i1⟩
  | 34 => ⟨S_, .i32⟩
  | 35 => ⟨S4x1x1, .i32⟩
  | 36 => ⟨S4x1x1, .i32⟩
  | 37 => ⟨S4x1x1, .i32⟩
  | 38 => ⟨S_, .i32⟩
  | 39 => ⟨S4x512x512, .i32⟩
  | 40 => ⟨S4x512x512, .i1⟩
  | 41 => ⟨S_, .i32⟩
  | 42 => ⟨S4x512x512, .i32⟩
  | 43 => ⟨S4x512x512, .i32⟩
  | 44 => ⟨S4x512x512, .i32⟩
  | 45 => ⟨S_, .i32⟩
  | 46 => ⟨S1x512x1, .i32⟩
  | 47 => ⟨S1x512x1, .i1⟩
  | 48 => ⟨S_, .i32⟩
  | 49 => ⟨S1x512x1, .i32⟩
  | 50 => ⟨S1x512x1, .i32⟩
  | 51 => ⟨S1x512x1, .i32⟩
  | 52 => ⟨S_, .i32⟩
  | 53 => ⟨S1x1x512, .i32⟩
  | 54 => ⟨S1x1x512, .i1⟩
  | 55 => ⟨S_, .i32⟩
  | 56 => ⟨S1x1x512, .i32⟩
  | 57 => ⟨S1x1x512, .i32⟩
  | 58 => ⟨S1x1x512, .i32⟩
  | 59 => ⟨S4x512x512, .i32⟩
  | 60 => ⟨S4x512x512, .i32⟩
  | 61 => ⟨S4x512x512, .i32⟩
  | 62 => ⟨S4x512x512x1, .i32⟩
  | 63 => ⟨S4x512x512x1, .i32⟩
  | 64 => ⟨S4x512x512x1, .i32⟩
  | 65 => ⟨S4x512x512x1, .i32⟩
  | 66 => ⟨S4x512x512x4, .i32⟩
  | 67 => ⟨S4x512x512x12, .f32⟩
  | 68 => ⟨S1x512x1, .f32⟩
  | 69 => ⟨S4x512x512, .f32⟩
  | 70 => ⟨S4x512x512, .f32⟩
  | 71 => ⟨S1x1x512, .f32⟩
  | 72 => ⟨S4x512x512, .f32⟩
  | 73 => ⟨S4x512x512, .f32⟩
  | 74 => ⟨S4x512x512x1, .f32⟩
  | 75 => ⟨S4x512x512x12, .f32⟩
  | 76 => ⟨S4x512x512x12, .f32⟩
  | 77 => ⟨S4x512x512x12, .f32⟩
  | 78 => ⟨S_, .f32⟩
  | 79 => ⟨S512, .f32⟩
  | 80 => ⟨S512, .f32⟩
  | 81 => ⟨S_, .f32⟩
  | 82 => ⟨S512, .f32⟩
  | 83 => ⟨S512, .f32⟩
  | 84 => ⟨S512, .f32⟩
  | 85 => ⟨S512, .f32⟩
  | 86 => ⟨S_, .f32⟩
  | 87 => ⟨S512, .f32⟩
  | 88 => ⟨S512, .f32⟩
  | 89 => ⟨S_, .f32⟩
  | 90 => ⟨S512, .f32⟩
  | 91 => ⟨S512, .f32⟩
  | 92 => ⟨S_, .i32⟩
  | 93 => ⟨S_, .i32⟩
  | 94 => ⟨S_, .f32⟩
  | 95 => ⟨S512, .f32⟩
  | 96 => ⟨S512, .f32⟩
  | 97 => ⟨S_, .f32⟩
  | 98 => ⟨S512, .f32⟩
  | 99 => ⟨S512, .f32⟩
  | 100 => ⟨S512, .i32⟩
  | 101 => ⟨S_, .f32⟩
  | 102 => ⟨S512, .f32⟩
  | 103 => ⟨S512, .f32⟩
  | 104 => ⟨S_, .f32⟩
  | 105 => ⟨S512, .f32⟩
  | 106 => ⟨S512, .f32⟩
  | 107 => ⟨S512, .f32⟩
  | 108 => ⟨S512, .f32⟩
  | 109 => ⟨S_, .f32⟩
  | 110 => ⟨S512, .f32⟩
  | 111 => ⟨S512, .f32⟩
  | 112 => ⟨S_, .f32⟩
  | 113 => ⟨S512, .f32⟩
  | 114 => ⟨S512, .f32⟩
  | 115 => ⟨S_, .i32⟩
  | 116 => ⟨S_, .i32⟩
  | 117 => ⟨S_, .f32⟩
  | 118 => ⟨S512, .f32⟩
  | 119 => ⟨S512, .f32⟩
  | 120 => ⟨S_, .f32⟩
  | 121 => ⟨S512, .f32⟩
  | 122 => ⟨S512, .f32⟩
  | 123 => ⟨S512, .i32⟩
  | 124 => ⟨S1x512x1, .i32⟩
  | 125 => ⟨S1x1x512, .i32⟩
  | 126 => ⟨S_, .i32⟩
  | 127 => ⟨S4x1x1, .i32⟩
  | _ => ⟨S4x12x8x16x16, .f32⟩

abbrev hbmTy0_5 (i : Nat) : BufTy := match i % 128 with
  | 0 => ⟨S4x1x1, .i1⟩
  | 1 => ⟨S_, .i32⟩
  | 2 => ⟨S4x1x1, .i32⟩
  | 3 => ⟨S4x1x1, .i32⟩
  | 4 => ⟨S4x1x1, .i32⟩
  | 5 => ⟨S_, .i32⟩
  | 6 => ⟨S4x512x512, .i32⟩
  | 7 => ⟨S4x512x512, .i1⟩
  | 8 => ⟨S_, .i32⟩
  | 9 => ⟨S4x512x512, .i32⟩
  | 10 => ⟨S4x512x512, .i32⟩
  | 11 => ⟨S4x512x512, .i32⟩
  | 12 => ⟨S_, .i32⟩
  | 13 => ⟨S1x512x1, .i32⟩
  | 14 => ⟨S1x512x1, .i1⟩
  | 15 => ⟨S_, .i32⟩
  | 16 => ⟨S1x512x1, .i32⟩
  | 17 => ⟨S1x512x1, .i32⟩
  | 18 => ⟨S1x512x1, .i32⟩
  | 19 => ⟨S_, .i32⟩
  | 20 => ⟨S1x1x512, .i32⟩
  | 21 => ⟨S1x1x512, .i1⟩
  | 22 => ⟨S_, .i32⟩
  | 23 => ⟨S1x1x512, .i32⟩
  | 24 => ⟨S1x1x512, .i32⟩
  | 25 => ⟨S1x1x512, .i32⟩
  | 26 => ⟨S4x512x512, .i32⟩
  | 27 => ⟨S4x512x512, .i32⟩
  | 28 => ⟨S4x512x512, .i32⟩
  | 29 => ⟨S4x512x512x1, .i32⟩
  | 30 => ⟨S4x512x512x1, .i32⟩
  | 31 => ⟨S4x512x512x1, .i32⟩
  | 32 => ⟨S4x512x512x1, .i32⟩
  | 33 => ⟨S4x512x512x4, .i32⟩
  | 34 => ⟨S4x512x512x12, .f32⟩
  | 35 => ⟨S1x512x1, .f32⟩
  | 36 => ⟨S4x512x512, .f32⟩
  | 37 => ⟨S4x512x512, .f32⟩
  | 38 => ⟨S1x1x512, .f32⟩
  | 39 => ⟨S4x512x512, .f32⟩
  | 40 => ⟨S4x512x512, .f32⟩
  | 41 => ⟨S4x512x512x1, .f32⟩
  | 42 => ⟨S4x512x512x12, .f32⟩
  | 43 => ⟨S4x512x512x12, .f32⟩
  | 44 => ⟨S4x512x512x12, .f32⟩
  | 45 => ⟨S_, .f32⟩
  | 46 => ⟨S512, .f32⟩
  | 47 => ⟨S512, .f32⟩
  | 48 => ⟨S_, .f32⟩
  | 49 => ⟨S512, .f32⟩
  | 50 => ⟨S512, .f32⟩
  | 51 => ⟨S512, .f32⟩
  | 52 => ⟨S512, .f32⟩
  | 53 => ⟨S_, .f32⟩
  | 54 => ⟨S512, .f32⟩
  | 55 => ⟨S512, .f32⟩
  | 56 => ⟨S_, .f32⟩
  | 57 => ⟨S512, .f32⟩
  | 58 => ⟨S512, .f32⟩
  | 59 => ⟨S_, .i32⟩
  | 60 => ⟨S_, .i32⟩
  | 61 => ⟨S_, .f32⟩
  | 62 => ⟨S512, .f32⟩
  | 63 => ⟨S512, .f32⟩
  | 64 => ⟨S_, .f32⟩
  | 65 => ⟨S512, .f32⟩
  | 66 => ⟨S512, .f32⟩
  | 67 => ⟨S512, .i32⟩
  | 68 => ⟨S1x512x1, .i32⟩
  | 69 => ⟨S1x1x512, .i32⟩
  | 70 => ⟨S_, .i32⟩
  | 71 => ⟨S4x1x1, .i32⟩
  | 72 => ⟨S4x1x1, .i1⟩
  | 73 => ⟨S_, .i32⟩
  | 74 => ⟨S4x1x1, .i32⟩
  | 75 => ⟨S4x1x1, .i32⟩
  | 76 => ⟨S4x1x1, .i32⟩
  | 77 => ⟨S_, .i32⟩
  | 78 => ⟨S4x512x512, .i32⟩
  | 79 => ⟨S4x512x512, .i1⟩
  | 80 => ⟨S_, .i32⟩
  | 81 => ⟨S4x512x512, .i32⟩
  | 82 => ⟨S4x512x512, .i32⟩
  | 83 => ⟨S4x512x512, .i32⟩
  | 84 => ⟨S_, .i32⟩
  | 85 => ⟨S1x512x1, .i32⟩
  | 86 => ⟨S1x512x1, .i1⟩
  | 87 => ⟨S_, .i32⟩
  | 88 => ⟨S1x512x1, .i32⟩
  | 89 => ⟨S1x512x1, .i32⟩
  | 90 => ⟨S1x512x1, .i32⟩
  | 91 => ⟨S_, .i32⟩
  | 92 => ⟨S1x1x512, .i32⟩
  | 93 => ⟨S1x1x512, .i1⟩
  | 94 => ⟨S_, .i32⟩
  | 95 => ⟨S1x1x512, .i32⟩
  | 96 => ⟨S1x1x512, .i32⟩
  | 97 => ⟨S1x1x512, .i32⟩
  | 98 => ⟨S4x512x512, .i32⟩
  | 99 => ⟨S4x512x512, .i32⟩
  | 100 => ⟨S4x512x512, .i32⟩
  | 101 => ⟨S4x512x512x1, .i32⟩
  | 102 => ⟨S4x512x512x1, .i32⟩
  | 103 => ⟨S4x512x512x1, .i32⟩
  | 104 => ⟨S4x512x512x1, .i32⟩
  | 105 => ⟨S4x512x512x4, .i32⟩
  | 106 => ⟨S4x512x512x12, .f32⟩
  | 107 => ⟨S1x512x1, .f32⟩
  | 108 => ⟨S4x512x512, .f32⟩
  | 109 => ⟨S4x512x512, .f32⟩
  | 110 => ⟨S1x1x512, .f32⟩
  | 111 => ⟨S4x512x512, .f32⟩
  | 112 => ⟨S4x512x512, .f32⟩
  | 113 => ⟨S4x512x512x1, .f32⟩
  | 114 => ⟨S4x512x512x12, .f32⟩
  | 115 => ⟨S4x512x512x12, .f32⟩
  | 116 => ⟨S4x512x512x12, .f32⟩
  | 117 => ⟨S4x512x512x3x4, .f32⟩
  | 118 => ⟨S4x512x512x3, .f32⟩
  | 119 => ⟨S4x512x512x3x3, .f32⟩
  | 120 => ⟨S4x512x512x3, .f32⟩
  | 121 => ⟨S4x512x512x3x1, .f32⟩
  | 122 => ⟨S4x512x512x3, .f32⟩
  | 123 => ⟨S4x512x512x3, .f32⟩
  | 124 => ⟨S4x3x512x512, .f32⟩
  | _ => ⟨S4x12x8x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x12x8x16x16, .f32⟩

abbrev bufTy : (tb : Table) → Fin (tcTables nBuf tb) → BufTy
  | .hbm, ⟨i, _⟩ => hbmTy i
  | _, _ => ⟨S4x12x8x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_12 : Ref sig .tc := ⟨.hbm, 51, rfl⟩
abbrev main_v35 : Ref sig .tc := ⟨.hbm, 52, rfl⟩
abbrev main_v36 : Ref sig .tc := ⟨.hbm, 53, rfl⟩
abbrev main_cst_13 : Ref sig .tc := ⟨.hbm, 54, rfl⟩
abbrev main_v37 : Ref sig .tc := ⟨.hbm, 55, rfl⟩
abbrev main_v38 : Ref sig .tc := ⟨.hbm, 56, rfl⟩
abbrev main_c : Ref sig .tc := ⟨.hbm, 57, rfl⟩
abbrev main_c_14 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_v40 : Ref sig .tc := ⟨.hbm, 65, rfl⟩
abbrev main_cst_15 : Ref sig .tc := ⟨.hbm, 66, rfl⟩
abbrev main_v41 : Ref sig .tc := ⟨.hbm, 67, rfl⟩
abbrev main_v42 : Ref sig .tc := ⟨.hbm, 68, rfl⟩
abbrev main_cst_16 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_17 : Ref sig .tc := ⟨.hbm, 74, rfl⟩
abbrev main_v47 : Ref sig .tc := ⟨.hbm, 75, rfl⟩
abbrev main_v48 : Ref sig .tc := ⟨.hbm, 76, rfl⟩
abbrev main_cst_18 : Ref sig .tc := ⟨.hbm, 77, rfl⟩
abbrev main_v49 : Ref sig .tc := ⟨.hbm, 78, rfl⟩
abbrev main_v50 : Ref sig .tc := ⟨.hbm, 79, rfl⟩
abbrev main_c_19 : Ref sig .tc := ⟨.hbm, 80, rfl⟩
abbrev main_c_20 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v51 : Ref sig .tc := ⟨.hbm, 87, rfl⟩
abbrev main_v52 : Ref sig .tc := ⟨.hbm, 88, rfl⟩
abbrev main_cst_21 : Ref sig .tc := ⟨.hbm, 89, rfl⟩
abbrev main_v53 : Ref sig .tc := ⟨.hbm, 90, rfl⟩
abbrev main_v54 : Ref sig .tc := ⟨.hbm, 91, rfl⟩
abbrev main_cst_22 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_23 : Ref sig .tc := ⟨.hbm, 97, rfl⟩
abbrev main_v59 : Ref sig .tc := ⟨.hbm, 98, rfl⟩
abbrev main_v60 : Ref sig .tc := ⟨.hbm, 99, rfl⟩
abbrev main_cst_24 : Ref sig .tc := ⟨.hbm, 100, rfl⟩
abbrev main_v61 : Ref sig .tc := ⟨.hbm, 101, rfl⟩
abbrev main_v62 : Ref sig .tc := ⟨.hbm, 102, rfl⟩
abbrev main_c_25 : Ref sig .tc := ⟨.hbm, 103, rfl⟩
abbrev main_c_26 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_27 : Ref sig .tc := ⟨.hbm, 114, rfl⟩
abbrev main_v67 : Ref sig .tc := ⟨.hbm, 115, rfl⟩
abbrev main_v68 : Ref sig .tc := ⟨.hbm, 116, rfl⟩
abbrev main_c_28 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_29 : Ref sig .tc := ⟨.hbm, 121, rfl⟩
abbrev main_v72 : Ref sig .tc := ⟨.hbm, 122, rfl⟩
abbrev main_v73 : Ref sig .tc := ⟨.hbm, 123, rfl⟩
abbrev main_c_30 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_c_31 : Ref sig .tc := ⟨.hbm, 128, rfl⟩
abbrev main_v77 : Ref sig .tc := ⟨.hbm, 129, rfl⟩
abbrev main_v78 : Ref sig .tc := ⟨.hbm, 130, rfl⟩
abbrev main_c_32 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_33 : Ref sig .tc := ⟨.hbm, 135, rfl⟩
abbrev main_v82 : Ref sig .tc := ⟨.hbm, 136, rfl⟩
abbrev main_v83 : Ref sig .tc := ⟨.hbm, 137, rfl⟩
abbrev main_c_34 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_35 : Ref sig .tc := ⟨.hbm, 161, rfl⟩
abbrev main_v106 : Ref sig .tc := ⟨.hbm, 162, rfl⟩
abbrev main_v107 : Ref sig .tc := ⟨.hbm, 163, rfl⟩
abbrev main_cst_36 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_37 : Ref sig .tc := ⟨.hbm, 169, rfl⟩
abbrev main_v112 : Ref sig .tc := ⟨.hbm, 170, rfl⟩
abbrev main_v113 : Ref sig .tc := ⟨.hbm, 171, rfl⟩
abbrev main_cst_38 : Ref sig .tc := ⟨.hbm, 172, rfl⟩
abbrev main_v114 : Ref sig .tc := ⟨.hbm, 173, rfl⟩
abbrev main_v115 : Ref sig .tc := ⟨.hbm, 174, rfl⟩
abbrev main_c_39 : Ref sig .tc := ⟨.hbm, 175, rfl⟩
abbrev main_c_40 : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_c_41 : Ref sig .tc := ⟨.hbm, 186, rfl⟩
abbrev main_v120 : Ref sig .tc := ⟨.hbm, 187, rfl⟩
abbrev main_v121 : Ref sig .tc := ⟨.hbm, 188, rfl⟩
abbrev main_c_42 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_c_43 : Ref sig .tc := ⟨.hbm, 193, rfl⟩
abbrev main_v125 : Ref sig .tc := ⟨.hbm, 194, rfl⟩
abbrev main_v126 : Ref sig .tc := ⟨.hbm, 195, rfl⟩
abbrev main_c_44 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_c_45 : Ref sig .tc := ⟨.hbm, 200, rfl⟩
abbrev main_v130 : Ref sig .tc := ⟨.hbm, 201, rfl⟩
abbrev main_v131 : Ref sig .tc := ⟨.hbm, 202, rfl⟩
abbrev main_c_46 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_c_47 : Ref sig .tc := ⟨.hbm, 207, rfl⟩
abbrev main_v135 : Ref sig .tc := ⟨.hbm, 208, rfl⟩
abbrev main_v136 : Ref sig .tc := ⟨.hbm, 209, rfl⟩
abbrev main_c_48 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_cst_49 : Ref sig .tc := ⟨.hbm, 233, rfl⟩
abbrev main_v159 : Ref sig .tc := ⟨.hbm, 234, rfl⟩
abbrev main_v160 : Ref sig .tc := ⟨.hbm, 235, rfl⟩
abbrev main_cst_50 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_cst_51 : Ref sig .tc := ⟨.hbm, 241, rfl⟩
abbrev main_v165 : Ref sig .tc := ⟨.hbm, 242, rfl⟩
abbrev main_v166 : Ref sig .tc := ⟨.hbm, 243, rfl⟩
abbrev main_cst_52 : Ref sig .tc := ⟨.hbm, 244, rfl⟩
abbrev main_v167 : Ref sig .tc := ⟨.hbm, 245, rfl⟩
abbrev main_v168 : Ref sig .tc := ⟨.hbm, 246, rfl⟩
abbrev main_c_53 : Ref sig .tc := ⟨.hbm, 247, rfl⟩
abbrev main_c_54 : Ref sig .tc := ⟨.hbm, 248, rfl⟩
abbrev main_call4_v0 : Ref sig .tc := ⟨.hbm, 249, rfl⟩
abbrev main_call4_v1 : Ref sig .tc := ⟨.hbm, 250, rfl⟩
abbrev main_call4_v2 : Ref sig .tc := ⟨.hbm, 251, rfl⟩
abbrev main_call4_v3 : Ref sig .tc := ⟨.hbm, 252, rfl⟩
abbrev main_call4_v4 : Ref sig .tc := ⟨.hbm, 253, rfl⟩
abbrev main_v169 : Ref sig .tc := ⟨.hbm, 254, rfl⟩
abbrev main_v170 : Ref sig .tc := ⟨.hbm, 255, rfl⟩
abbrev main_cst_55 : Ref sig .tc := ⟨.hbm, 256, rfl⟩
abbrev main_v171 : Ref sig .tc := ⟨.hbm, 257, rfl⟩
abbrev main_v172 : Ref sig .tc := ⟨.hbm, 258, rfl⟩
abbrev main_cst_56 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_cst_57 : Ref sig .tc := ⟨.hbm, 264, rfl⟩
abbrev main_v177 : Ref sig .tc := ⟨.hbm, 265, rfl⟩
abbrev main_v178 : Ref sig .tc := ⟨.hbm, 266, rfl⟩
abbrev main_cst_58 : Ref sig .tc := ⟨.hbm, 267, rfl⟩
abbrev main_v179 : Ref sig .tc := ⟨.hbm, 268, rfl⟩
abbrev main_v180 : Ref sig .tc := ⟨.hbm, 269, rfl⟩
abbrev main_c_59 : Ref sig .tc := ⟨.hbm, 270, rfl⟩
abbrev main_c_60 : Ref sig .tc := ⟨.hbm, 271, rfl⟩
abbrev main_call5_v0 : Ref sig .tc := ⟨.hbm, 272, rfl⟩
abbrev main_call5_v1 : Ref sig .tc := ⟨.hbm, 273, rfl⟩
abbrev main_call5_v2 : Ref sig .tc := ⟨.hbm, 274, rfl⟩
abbrev main_call5_v3 : Ref sig .tc := ⟨.hbm, 275, rfl⟩
abbrev main_call5_v4 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_c_61 : Ref sig .tc := ⟨.hbm, 281, rfl⟩
abbrev main_v185 : Ref sig .tc := ⟨.hbm, 282, rfl⟩
abbrev main_v186 : Ref sig .tc := ⟨.hbm, 283, rfl⟩
abbrev main_c_62 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_c_63 : Ref sig .tc := ⟨.hbm, 288, rfl⟩
abbrev main_v190 : Ref sig .tc := ⟨.hbm, 289, rfl⟩
abbrev main_v191 : Ref sig .tc := ⟨.hbm, 290, rfl⟩
abbrev main_c_64 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_c_65 : Ref sig .tc := ⟨.hbm, 295, rfl⟩
abbrev main_v195 : Ref sig .tc := ⟨.hbm, 296, rfl⟩
abbrev main_v196 : Ref sig .tc := ⟨.hbm, 297, rfl⟩
abbrev main_c_66 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_c_67 : Ref sig .tc := ⟨.hbm, 302, rfl⟩
abbrev main_v200 : Ref sig .tc := ⟨.hbm, 303, rfl⟩
abbrev main_v201 : Ref sig .tc := ⟨.hbm, 304, rfl⟩
abbrev main_c_68 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_cst_69 : Ref sig .tc := ⟨.hbm, 328, rfl⟩
abbrev main_v224 : Ref sig .tc := ⟨.hbm, 329, rfl⟩
abbrev main_v225 : Ref sig .tc := ⟨.hbm, 330, rfl⟩
abbrev main_cst_70 : Ref sig .tc := ⟨.hbm, 331, rfl⟩
abbrev main_v226 : Ref sig .tc := ⟨.hbm, 332, rfl⟩
abbrev main_v227 : Ref sig .tc := ⟨.hbm, 333, rfl⟩
abbrev main_v228 : Ref sig .tc := ⟨.hbm, 334, rfl⟩
abbrev main_v229 : Ref sig .tc := ⟨.hbm, 335, rfl⟩
abbrev main_cst_71 : Ref sig .tc := ⟨.hbm, 336, rfl⟩
abbrev main_v230 : Ref sig .tc := ⟨.hbm, 337, rfl⟩
abbrev main_v231 : Ref sig .tc := ⟨.hbm, 338, rfl⟩
abbrev main_cst_72 : Ref sig .tc := ⟨.hbm, 339, rfl⟩
abbrev main_v232 : Ref sig .tc := ⟨.hbm, 340, rfl⟩
abbrev main_v233 : Ref sig .tc := ⟨.hbm, 341, rfl⟩
abbrev main_c_73 : Ref sig .tc := ⟨.hbm, 342, rfl⟩
abbrev main_c_74 : Ref sig .tc := ⟨.hbm, 343, rfl⟩
abbrev main_call6_v0 : Ref sig .tc := ⟨.hbm, 344, rfl⟩
abbrev main_call6_v1 : Ref sig .tc := ⟨.hbm, 345, rfl⟩
abbrev main_call6_v2 : Ref sig .tc := ⟨.hbm, 346, rfl⟩
abbrev main_call6_v3 : Ref sig .tc := ⟨.hbm, 347, rfl⟩
abbrev main_call6_v4 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_c_75 : Ref sig .tc := ⟨.hbm, 353, rfl⟩
abbrev main_v238 : Ref sig .tc := ⟨.hbm, 354, rfl⟩
abbrev main_v239 : Ref sig .tc := ⟨.hbm, 355, rfl⟩
abbrev main_c_76 : Ref sig .tc := ⟨.hbm, 356, rfl⟩
abbrev main_v240 : Ref sig .tc := ⟨.hbm, 357, rfl⟩
abbrev main_v241 : Ref sig .tc := ⟨.hbm, 358, rfl⟩
abbrev main_v242 : Ref sig .tc := ⟨.hbm, 359, rfl⟩
abbrev main_c_77 : Ref sig .tc := ⟨.hbm, 360, rfl⟩
abbrev main_v243 : Ref sig .tc := ⟨.hbm, 361, rfl⟩
abbrev main_v244 : Ref sig .tc := ⟨.hbm, 362, rfl⟩
abbrev main_c_78 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_c_79 : Ref sig .tc := ⟨.hbm, 367, rfl⟩
abbrev main_v248 : Ref sig .tc := ⟨.hbm, 368, rfl⟩
abbrev main_v249 : Ref sig .tc := ⟨.hbm, 369, rfl⟩
abbrev main_c_80 : Ref sig .tc := ⟨.hbm, 370, rfl⟩
abbrev main_v250 : Ref sig .tc := ⟨.hbm, 371, rfl⟩
abbrev main_v251 : Ref sig .tc := ⟨.hbm, 372, rfl⟩
abbrev main_v252 : Ref sig .tc := ⟨.hbm, 373, rfl⟩
abbrev main_c_81 : Ref sig .tc := ⟨.hbm, 374, rfl⟩
abbrev main_v253 : Ref sig .tc := ⟨.hbm, 375, rfl⟩
abbrev main_v254 : Ref sig .tc := ⟨.hbm, 376, rfl⟩
abbrev main_c_82 : Ref sig .tc := ⟨.hbm, 377, rfl⟩
abbrev main_v255 : Ref sig .tc := ⟨.hbm, 378, rfl⟩
abbrev main_v256 : Ref sig .tc := ⟨.hbm, 379, rfl⟩
abbrev main_v257 : Ref sig .tc := ⟨.hbm, 380, rfl⟩
abbrev main_v258 : Ref sig .tc := ⟨.hbm, 381, rfl⟩
abbrev main_v259 : Ref sig .tc := ⟨.hbm, 382, rfl⟩
abbrev main_v260 : Ref sig .tc := ⟨.hbm, 383, rfl⟩
abbrev main_v261 : Ref sig .tc := ⟨.hbm, 384, rfl⟩
abbrev main_v262 : Ref sig .tc := ⟨.hbm, 385, rfl⟩
abbrev main_v263 : Ref sig .tc := ⟨.hbm, 386, rfl⟩
abbrev main_v264 : Ref sig .tc := ⟨.hbm, 387, rfl⟩
abbrev main_v265 : Ref sig .tc := ⟨.hbm, 388, rfl⟩
abbrev main_v266 : Ref sig .tc := ⟨.hbm, 389, rfl⟩
abbrev main_v267 : Ref sig .tc := ⟨.hbm, 390, rfl⟩
abbrev main_v268 : Ref sig .tc := ⟨.hbm, 391, rfl⟩
abbrev main_v269 : Ref sig .tc := ⟨.hbm, 392, rfl⟩
abbrev main_v270 : Ref sig .tc := ⟨.hbm, 393, rfl⟩
abbrev main_v271 : Ref sig .tc := ⟨.hbm, 394, rfl⟩
abbrev main_v272 : Ref sig .tc := ⟨.hbm, 395, rfl⟩
abbrev main_v273 : Ref sig .tc := ⟨.hbm, 396, rfl⟩
abbrev main_v274 : Ref sig .tc := ⟨.hbm, 397, rfl⟩
abbrev main_v275 : Ref sig .tc := ⟨.hbm, 398, rfl⟩
abbrev main_v276 : Ref sig .tc := ⟨.hbm, 399, rfl⟩
abbrev main_cst_83 : Ref sig .tc := ⟨.hbm, 400, rfl⟩
abbrev main_v277 : Ref sig .tc := ⟨.hbm, 401, rfl⟩
abbrev main_v278 : Ref sig .tc := ⟨.hbm, 402, rfl⟩
abbrev main_cst_84 : Ref sig .tc := ⟨.hbm, 403, rfl⟩
abbrev main_v279 : Ref sig .tc := ⟨.hbm, 404, rfl⟩
abbrev main_v280 : Ref sig .tc := ⟨.hbm, 405, rfl⟩
abbrev main_v281 : Ref sig .tc := ⟨.hbm, 406, rfl⟩
abbrev main_v282 : Ref sig .tc := ⟨.hbm, 407, rfl⟩
abbrev main_cst_85 : Ref sig .tc := ⟨.hbm, 408, rfl⟩
abbrev main_v283 : Ref sig .tc := ⟨.hbm, 409, rfl⟩
abbrev main_v284 : Ref sig .tc := ⟨.hbm, 410, rfl⟩
abbrev main_cst_86 : Ref sig .tc := ⟨.hbm, 411, rfl⟩
abbrev main_v285 : Ref sig .tc := ⟨.hbm, 412, rfl⟩
abbrev main_v286 : Ref sig .tc := ⟨.hbm, 413, rfl⟩
abbrev main_c_87 : Ref sig .tc := ⟨.hbm, 414, rfl⟩
abbrev main_c_88 : Ref sig .tc := ⟨.hbm, 415, rfl⟩
abbrev main_call7_v0 : Ref sig .tc := ⟨.hbm, 416, rfl⟩
abbrev main_call7_v1 : Ref sig .tc := ⟨.hbm, 417, rfl⟩
abbrev main_call7_v2 : Ref sig .tc := ⟨.hbm, 418, rfl⟩
abbrev main_call7_v3 : Ref sig .tc := ⟨.hbm, 419, rfl⟩
abbrev main_call7_v4 : Ref sig .tc := ⟨.hbm, 420, rfl⟩
abbrev main_v287 : Ref sig .tc := ⟨.hbm, 421, rfl⟩
abbrev main_v288 : Ref sig .tc := ⟨.hbm, 422, rfl⟩
abbrev main_cst_89 : Ref sig .tc := ⟨.hbm, 423, rfl⟩
abbrev main_v289 : Ref sig .tc := ⟨.hbm, 424, rfl⟩
abbrev main_v290 : Ref sig .tc := ⟨.hbm, 425, rfl⟩
abbrev main_cst_90 : Ref sig .tc := ⟨.hbm, 426, rfl⟩
abbrev main_v291 : Ref sig .tc := ⟨.hbm, 427, rfl⟩
abbrev main_v292 : Ref sig .tc := ⟨.hbm, 428, rfl⟩
abbrev main_v293 : Ref sig .tc := ⟨.hbm, 429, rfl⟩
abbrev main_v294 : Ref sig .tc := ⟨.hbm, 430, rfl⟩
abbrev main_cst_91 : Ref sig .tc := ⟨.hbm, 431, rfl⟩
abbrev main_v295 : Ref sig .tc := ⟨.hbm, 432, rfl⟩
abbrev main_v296 : Ref sig .tc := ⟨.hbm, 433, rfl⟩
abbrev main_cst_92 : Ref sig .tc := ⟨.hbm, 434, rfl⟩
abbrev main_v297 : Ref sig .tc := ⟨.hbm, 435, rfl⟩
abbrev main_v298 : Ref sig .tc := ⟨.hbm, 436, rfl⟩
abbrev main_c_93 : Ref sig .tc := ⟨.hbm, 437, rfl⟩
abbrev main_c_94 : Ref sig .tc := ⟨.hbm, 438, rfl⟩
abbrev main_call8_v0 : Ref sig .tc := ⟨.hbm, 439, rfl⟩
abbrev main_call8_v1 : Ref sig .tc := ⟨.hbm, 440, rfl⟩
abbrev main_call8_v2 : Ref sig .tc := ⟨.hbm, 441, rfl⟩
abbrev main_call8_v3 : Ref sig .tc := ⟨.hbm, 442, rfl⟩
abbrev main_call8_v4 : Ref sig .tc := ⟨.hbm, 443, rfl⟩
abbrev main_v299 : Ref sig .tc := ⟨.hbm, 444, rfl⟩
abbrev main_v300 : Ref sig .tc := ⟨.hbm, 445, rfl⟩
abbrev main_cst_95 : Ref sig .tc := ⟨.hbm, 446, rfl⟩
abbrev main_v301 : Ref sig .tc := ⟨.hbm, 447, rfl⟩
abbrev main_v302 : Ref sig .tc := ⟨.hbm, 448, rfl⟩
abbrev main_cst_96 : Ref sig .tc := ⟨.hbm, 449, rfl⟩
abbrev main_v303 : Ref sig .tc := ⟨.hbm, 450, rfl⟩
abbrev main_v304 : Ref sig .tc := ⟨.hbm, 451, rfl⟩
abbrev main_v305 : Ref sig .tc := ⟨.hbm, 452, rfl⟩
abbrev main_v306 : Ref sig .tc := ⟨.hbm, 453, rfl⟩
abbrev main_cst_97 : Ref sig .tc := ⟨.hbm, 454, rfl⟩
abbrev main_v307 : Ref sig .tc := ⟨.hbm, 455, rfl⟩
abbrev main_v308 : Ref sig .tc := ⟨.hbm, 456, rfl⟩
abbrev main_cst_98 : Ref sig .tc := ⟨.hbm, 457, rfl⟩
abbrev main_v309 : Ref sig .tc := ⟨.hbm, 458, rfl⟩
abbrev main_v310 : Ref sig .tc := ⟨.hbm, 459, rfl⟩
abbrev main_c_99 : Ref sig .tc := ⟨.hbm, 460, rfl⟩
abbrev main_c_100 : Ref sig .tc := ⟨.hbm, 461, rfl⟩
abbrev main_call9_v0 : Ref sig .tc := ⟨.hbm, 462, rfl⟩
abbrev main_call9_v1 : Ref sig .tc := ⟨.hbm, 463, rfl⟩
abbrev main_call9_v2 : Ref sig .tc := ⟨.hbm, 464, rfl⟩
abbrev main_call9_v3 : Ref sig .tc := ⟨.hbm, 465, rfl⟩
abbrev main_call9_v4 : Ref sig .tc := ⟨.hbm, 466, rfl⟩
abbrev main_v311 : Ref sig .tc := ⟨.hbm, 467, rfl⟩
abbrev main_v312 : Ref sig .tc := ⟨.hbm, 468, rfl⟩
abbrev main_v313 : Ref sig .tc := ⟨.hbm, 469, rfl⟩
abbrev main_v314 : Ref sig .tc := ⟨.hbm, 470, rfl⟩
abbrev main_c_101 : Ref sig .tc := ⟨.hbm, 471, rfl⟩
abbrev main_v315 : Ref sig .tc := ⟨.hbm, 472, rfl⟩
abbrev main_v316 : Ref sig .tc := ⟨.hbm, 473, rfl⟩
abbrev main_c_102 : Ref sig .tc := ⟨.hbm, 474, rfl⟩
abbrev main_v317 : Ref sig .tc := ⟨.hbm, 475, rfl⟩
abbrev main_v318 : Ref sig .tc := ⟨.hbm, 476, rfl⟩
abbrev main_v319 : Ref sig .tc := ⟨.hbm, 477, rfl⟩
abbrev main_c_103 : Ref sig .tc := ⟨.hbm, 478, rfl⟩
abbrev main_v320 : Ref sig .tc := ⟨.hbm, 479, rfl⟩
abbrev main_v321 : Ref sig .tc := ⟨.hbm, 480, rfl⟩
abbrev main_c_104 : Ref sig .tc := ⟨.hbm, 481, rfl⟩
abbrev main_v322 : Ref sig .tc := ⟨.hbm, 482, rfl⟩
abbrev main_v323 : Ref sig .tc := ⟨.hbm, 483, rfl⟩
abbrev main_v324 : Ref sig .tc := ⟨.hbm, 484, rfl⟩
abbrev main_c_105 : Ref sig .tc := ⟨.hbm, 485, rfl⟩
abbrev main_v325 : Ref sig .tc := ⟨.hbm, 486, rfl⟩
abbrev main_v326 : Ref sig .tc := ⟨.hbm, 487, rfl⟩
abbrev main_c_106 : Ref sig .tc := ⟨.hbm, 488, rfl⟩
abbrev main_v327 : Ref sig .tc := ⟨.hbm, 489, rfl⟩
abbrev main_v328 : Ref sig .tc := ⟨.hbm, 490, rfl⟩
abbrev main_v329 : Ref sig .tc := ⟨.hbm, 491, rfl⟩
abbrev main_c_107 : Ref sig .tc := ⟨.hbm, 492, rfl⟩
abbrev main_v330 : Ref sig .tc := ⟨.hbm, 493, rfl⟩
abbrev main_v331 : Ref sig .tc := ⟨.hbm, 494, rfl⟩
abbrev main_c_108 : Ref sig .tc := ⟨.hbm, 495, rfl⟩
abbrev main_v332 : Ref sig .tc := ⟨.hbm, 496, rfl⟩
abbrev main_v333 : Ref sig .tc := ⟨.hbm, 497, rfl⟩
abbrev main_v334 : Ref sig .tc := ⟨.hbm, 498, rfl⟩
abbrev main_v335 : Ref sig .tc := ⟨.hbm, 499, rfl⟩
abbrev main_v336 : Ref sig .tc := ⟨.hbm, 500, rfl⟩
abbrev main_v337 : Ref sig .tc := ⟨.hbm, 501, rfl⟩
abbrev main_v338 : Ref sig .tc := ⟨.hbm, 502, rfl⟩
abbrev main_v339 : Ref sig .tc := ⟨.hbm, 503, rfl⟩
abbrev main_v340 : Ref sig .tc := ⟨.hbm, 504, rfl⟩
abbrev main_v341 : Ref sig .tc := ⟨.hbm, 505, rfl⟩
abbrev main_v342 : Ref sig .tc := ⟨.hbm, 506, rfl⟩
abbrev main_v343 : Ref sig .tc := ⟨.hbm, 507, rfl⟩
abbrev main_v344 : Ref sig .tc := ⟨.hbm, 508, rfl⟩
abbrev main_v345 : Ref sig .tc := ⟨.hbm, 509, rfl⟩
abbrev main_v346 : Ref sig .tc := ⟨.hbm, 510, rfl⟩
abbrev main_v347 : Ref sig .tc := ⟨.hbm, 511, rfl⟩
abbrev main_v348 : Ref sig .tc := ⟨.hbm, 512, rfl⟩
abbrev main_v349 : Ref sig .tc := ⟨.hbm, 513, rfl⟩
abbrev main_v350 : Ref sig .tc := ⟨.hbm, 514, rfl⟩
abbrev main_v351 : Ref sig .tc := ⟨.hbm, 515, rfl⟩
abbrev main_v352 : Ref sig .tc := ⟨.hbm, 516, rfl⟩
abbrev main_v353 : Ref sig .tc := ⟨.hbm, 517, rfl⟩
abbrev main_cst_109 : Ref sig .tc := ⟨.hbm, 518, rfl⟩
abbrev main_v354 : Ref sig .tc := ⟨.hbm, 519, rfl⟩
abbrev main_v355 : Ref sig .tc := ⟨.hbm, 520, rfl⟩
abbrev main_cst_110 : Ref sig .tc := ⟨.hbm, 521, rfl⟩
abbrev main_v356 : Ref sig .tc := ⟨.hbm, 522, rfl⟩
abbrev main_v357 : Ref sig .tc := ⟨.hbm, 523, rfl⟩
abbrev main_v358 : Ref sig .tc := ⟨.hbm, 524, rfl⟩
abbrev main_v359 : Ref sig .tc := ⟨.hbm, 525, rfl⟩
abbrev main_cst_111 : Ref sig .tc := ⟨.hbm, 526, rfl⟩
abbrev main_v360 : Ref sig .tc := ⟨.hbm, 527, rfl⟩
abbrev main_v361 : Ref sig .tc := ⟨.hbm, 528, rfl⟩
abbrev main_cst_112 : Ref sig .tc := ⟨.hbm, 529, rfl⟩
abbrev main_v362 : Ref sig .tc := ⟨.hbm, 530, rfl⟩
abbrev main_v363 : Ref sig .tc := ⟨.hbm, 531, rfl⟩
abbrev main_c_113 : Ref sig .tc := ⟨.hbm, 532, rfl⟩
abbrev main_c_114 : Ref sig .tc := ⟨.hbm, 533, rfl⟩
abbrev main_call10_v0 : Ref sig .tc := ⟨.hbm, 534, rfl⟩
abbrev main_call10_v1 : Ref sig .tc := ⟨.hbm, 535, rfl⟩
abbrev main_call10_v2 : Ref sig .tc := ⟨.hbm, 536, rfl⟩
abbrev main_call10_v3 : Ref sig .tc := ⟨.hbm, 537, rfl⟩
abbrev main_call10_v4 : Ref sig .tc := ⟨.hbm, 538, rfl⟩
abbrev main_v364 : Ref sig .tc := ⟨.hbm, 539, rfl⟩
abbrev main_v365 : Ref sig .tc := ⟨.hbm, 540, rfl⟩
abbrev main_v366 : Ref sig .tc := ⟨.hbm, 541, rfl⟩
abbrev main_v367 : Ref sig .tc := ⟨.hbm, 542, rfl⟩
abbrev main_c_115 : Ref sig .tc := ⟨.hbm, 543, rfl⟩
abbrev main_v368 : Ref sig .tc := ⟨.hbm, 544, rfl⟩
abbrev main_v369 : Ref sig .tc := ⟨.hbm, 545, rfl⟩
abbrev main_c_116 : Ref sig .tc := ⟨.hbm, 546, rfl⟩
abbrev main_v370 : Ref sig .tc := ⟨.hbm, 547, rfl⟩
abbrev main_v371 : Ref sig .tc := ⟨.hbm, 548, rfl⟩
abbrev main_v372 : Ref sig .tc := ⟨.hbm, 549, rfl⟩
abbrev main_c_117 : Ref sig .tc := ⟨.hbm, 550, rfl⟩
abbrev main_v373 : Ref sig .tc := ⟨.hbm, 551, rfl⟩
abbrev main_v374 : Ref sig .tc := ⟨.hbm, 552, rfl⟩
abbrev main_c_118 : Ref sig .tc := ⟨.hbm, 553, rfl⟩
abbrev main_v375 : Ref sig .tc := ⟨.hbm, 554, rfl⟩
abbrev main_v376 : Ref sig .tc := ⟨.hbm, 555, rfl⟩
abbrev main_v377 : Ref sig .tc := ⟨.hbm, 556, rfl⟩
abbrev main_c_119 : Ref sig .tc := ⟨.hbm, 557, rfl⟩
abbrev main_v378 : Ref sig .tc := ⟨.hbm, 558, rfl⟩
abbrev main_v379 : Ref sig .tc := ⟨.hbm, 559, rfl⟩
abbrev main_c_120 : Ref sig .tc := ⟨.hbm, 560, rfl⟩
abbrev main_v380 : Ref sig .tc := ⟨.hbm, 561, rfl⟩
abbrev main_v381 : Ref sig .tc := ⟨.hbm, 562, rfl⟩
abbrev main_v382 : Ref sig .tc := ⟨.hbm, 563, rfl⟩
abbrev main_c_121 : Ref sig .tc := ⟨.hbm, 564, rfl⟩
abbrev main_v383 : Ref sig .tc := ⟨.hbm, 565, rfl⟩
abbrev main_v384 : Ref sig .tc := ⟨.hbm, 566, rfl⟩
abbrev main_c_122 : Ref sig .tc := ⟨.hbm, 567, rfl⟩
abbrev main_v385 : Ref sig .tc := ⟨.hbm, 568, rfl⟩
abbrev main_v386 : Ref sig .tc := ⟨.hbm, 569, rfl⟩
abbrev main_v387 : Ref sig .tc := ⟨.hbm, 570, rfl⟩
abbrev main_v388 : Ref sig .tc := ⟨.hbm, 571, rfl⟩
abbrev main_v389 : Ref sig .tc := ⟨.hbm, 572, rfl⟩
abbrev main_v390 : Ref sig .tc := ⟨.hbm, 573, rfl⟩
abbrev main_v391 : Ref sig .tc := ⟨.hbm, 574, rfl⟩
abbrev main_v392 : Ref sig .tc := ⟨.hbm, 575, rfl⟩
abbrev main_v393 : Ref sig .tc := ⟨.hbm, 576, rfl⟩
abbrev main_v394 : Ref sig .tc := ⟨.hbm, 577, rfl⟩
abbrev main_v395 : Ref sig .tc := ⟨.hbm, 578, rfl⟩
abbrev main_v396 : Ref sig .tc := ⟨.hbm, 579, rfl⟩
abbrev main_v397 : Ref sig .tc := ⟨.hbm, 580, rfl⟩
abbrev main_v398 : Ref sig .tc := ⟨.hbm, 581, rfl⟩
abbrev main_v399 : Ref sig .tc := ⟨.hbm, 582, rfl⟩
abbrev main_v400 : Ref sig .tc := ⟨.hbm, 583, rfl⟩
abbrev main_v401 : Ref sig .tc := ⟨.hbm, 584, rfl⟩
abbrev main_v402 : Ref sig .tc := ⟨.hbm, 585, rfl⟩
abbrev main_v403 : Ref sig .tc := ⟨.hbm, 586, rfl⟩
abbrev main_v404 : Ref sig .tc := ⟨.hbm, 587, rfl⟩
abbrev main_v405 : Ref sig .tc := ⟨.hbm, 588, rfl⟩
abbrev main_v406 : Ref sig .tc := ⟨.hbm, 589, rfl⟩
abbrev main_cst_123 : Ref sig .tc := ⟨.hbm, 590, rfl⟩
abbrev main_v407 : Ref sig .tc := ⟨.hbm, 591, rfl⟩
abbrev main_v408 : Ref sig .tc := ⟨.hbm, 592, rfl⟩
abbrev main_cst_124 : Ref sig .tc := ⟨.hbm, 593, rfl⟩
abbrev main_v409 : Ref sig .tc := ⟨.hbm, 594, rfl⟩
abbrev main_v410 : Ref sig .tc := ⟨.hbm, 595, rfl⟩
abbrev main_v411 : Ref sig .tc := ⟨.hbm, 596, rfl⟩
abbrev main_v412 : Ref sig .tc := ⟨.hbm, 597, rfl⟩
abbrev main_cst_125 : Ref sig .tc := ⟨.hbm, 598, rfl⟩
abbrev main_v413 : Ref sig .tc := ⟨.hbm, 599, rfl⟩
abbrev main_v414 : Ref sig .tc := ⟨.hbm, 600, rfl⟩
abbrev main_cst_126 : Ref sig .tc := ⟨.hbm, 601, rfl⟩
abbrev main_v415 : Ref sig .tc := ⟨.hbm, 602, rfl⟩
abbrev main_v416 : Ref sig .tc := ⟨.hbm, 603, rfl⟩
abbrev main_c_127 : Ref sig .tc := ⟨.hbm, 604, rfl⟩
abbrev main_c_128 : Ref sig .tc := ⟨.hbm, 605, rfl⟩
abbrev main_call11_v0 : Ref sig .tc := ⟨.hbm, 606, rfl⟩
abbrev main_call11_v1 : Ref sig .tc := ⟨.hbm, 607, rfl⟩
abbrev main_call11_v2 : Ref sig .tc := ⟨.hbm, 608, rfl⟩
abbrev main_call11_v3 : Ref sig .tc := ⟨.hbm, 609, rfl⟩
abbrev main_call11_v4 : Ref sig .tc := ⟨.hbm, 610, rfl⟩
abbrev main_v417 : Ref sig .tc := ⟨.hbm, 611, rfl⟩
abbrev main_v418 : Ref sig .tc := ⟨.hbm, 612, rfl⟩
abbrev main_cst_129 : Ref sig .tc := ⟨.hbm, 613, rfl⟩
abbrev main_v419 : Ref sig .tc := ⟨.hbm, 614, rfl⟩
abbrev main_v420 : Ref sig .tc := ⟨.hbm, 615, rfl⟩
abbrev main_cst_130 : Ref sig .tc := ⟨.hbm, 616, rfl⟩
abbrev main_v421 : Ref sig .tc := ⟨.hbm, 617, rfl⟩
abbrev main_v422 : Ref sig .tc := ⟨.hbm, 618, rfl⟩
abbrev main_v423 : Ref sig .tc := ⟨.hbm, 619, rfl⟩
abbrev main_v424 : Ref sig .tc := ⟨.hbm, 620, rfl⟩
abbrev main_cst_131 : Ref sig .tc := ⟨.hbm, 621, rfl⟩
abbrev main_v425 : Ref sig .tc := ⟨.hbm, 622, rfl⟩
abbrev main_v426 : Ref sig .tc := ⟨.hbm, 623, rfl⟩
abbrev main_cst_132 : Ref sig .tc := ⟨.hbm, 624, rfl⟩
abbrev main_v427 : Ref sig .tc := ⟨.hbm, 625, rfl⟩
abbrev main_v428 : Ref sig .tc := ⟨.hbm, 626, rfl⟩
abbrev main_c_133 : Ref sig .tc := ⟨.hbm, 627, rfl⟩
abbrev main_c_134 : Ref sig .tc := ⟨.hbm, 628, rfl⟩
abbrev main_call12_v0 : Ref sig .tc := ⟨.hbm, 629, rfl⟩
abbrev main_call12_v1 : Ref sig .tc := ⟨.hbm, 630, rfl⟩
abbrev main_call12_v2 : Ref sig .tc := ⟨.hbm, 631, rfl⟩
abbrev main_call12_v3 : Ref sig .tc := ⟨.hbm, 632, rfl⟩
abbrev main_call12_v4 : Ref sig .tc := ⟨.hbm, 633, rfl⟩
abbrev main_v429 : Ref sig .tc := ⟨.hbm, 634, rfl⟩
abbrev main_v430 : Ref sig .tc := ⟨.hbm, 635, rfl⟩
abbrev main_v431 : Ref sig .tc := ⟨.hbm, 636, rfl⟩
abbrev main_v432 : Ref sig .tc := ⟨.hbm, 637, rfl⟩
abbrev main_c_135 : Ref sig .tc := ⟨.hbm, 638, rfl⟩
abbrev main_v433 : Ref sig .tc := ⟨.hbm, 639, rfl⟩
abbrev main_v434 : Ref sig .tc := ⟨.hbm, 640, rfl⟩
abbrev main_c_136 : Ref sig .tc := ⟨.hbm, 641, rfl⟩
abbrev main_v435 : Ref sig .tc := ⟨.hbm, 642, rfl⟩
abbrev main_v436 : Ref sig .tc := ⟨.hbm, 643, rfl⟩
abbrev main_v437 : Ref sig .tc := ⟨.hbm, 644, rfl⟩
abbrev main_c_137 : Ref sig .tc := ⟨.hbm, 645, rfl⟩
abbrev main_v438 : Ref sig .tc := ⟨.hbm, 646, rfl⟩
abbrev main_v439 : Ref sig .tc := ⟨.hbm, 647, rfl⟩
abbrev main_c_138 : Ref sig .tc := ⟨.hbm, 648, rfl⟩
abbrev main_v440 : Ref sig .tc := ⟨.hbm, 649, rfl⟩
abbrev main_v441 : Ref sig .tc := ⟨.hbm, 650, rfl⟩
abbrev main_v442 : Ref sig .tc := ⟨.hbm, 651, rfl⟩
abbrev main_c_139 : Ref sig .tc := ⟨.hbm, 652, rfl⟩
abbrev main_v443 : Ref sig .tc := ⟨.hbm, 653, rfl⟩
abbrev main_v444 : Ref sig .tc := ⟨.hbm, 654, rfl⟩
abbrev main_c_140 : Ref sig .tc := ⟨.hbm, 655, rfl⟩
abbrev main_v445 : Ref sig .tc := ⟨.hbm, 656, rfl⟩
abbrev main_v446 : Ref sig .tc := ⟨.hbm, 657, rfl⟩
abbrev main_v447 : Ref sig .tc := ⟨.hbm, 658, rfl⟩
abbrev main_c_141 : Ref sig .tc := ⟨.hbm, 659, rfl⟩
abbrev main_v448 : Ref sig .tc := ⟨.hbm, 660, rfl⟩
abbrev main_v449 : Ref sig .tc := ⟨.hbm, 661, rfl⟩
abbrev main_c_142 : Ref sig .tc := ⟨.hbm, 662, rfl⟩
abbrev main_v450 : Ref sig .tc := ⟨.hbm, 663, rfl⟩
abbrev main_v451 : Ref sig .tc := ⟨.hbm, 664, rfl⟩
abbrev main_v452 : Ref sig .tc := ⟨.hbm, 665, rfl⟩
abbrev main_v453 : Ref sig .tc := ⟨.hbm, 666, rfl⟩
abbrev main_v454 : Ref sig .tc := ⟨.hbm, 667, rfl⟩
abbrev main_v455 : Ref sig .tc := ⟨.hbm, 668, rfl⟩
abbrev main_v456 : Ref sig .tc := ⟨.hbm, 669, rfl⟩
abbrev main_v457 : Ref sig .tc := ⟨.hbm, 670, rfl⟩
abbrev main_v458 : Ref sig .tc := ⟨.hbm, 671, rfl⟩
abbrev main_v459 : Ref sig .tc := ⟨.hbm, 672, rfl⟩
abbrev main_v460 : Ref sig .tc := ⟨.hbm, 673, rfl⟩
abbrev main_v461 : Ref sig .tc := ⟨.hbm, 674, rfl⟩
abbrev main_v462 : Ref sig .tc := ⟨.hbm, 675, rfl⟩
abbrev main_v463 : Ref sig .tc := ⟨.hbm, 676, rfl⟩
abbrev main_v464 : Ref sig .tc := ⟨.hbm, 677, rfl⟩
abbrev main_v465 : Ref sig .tc := ⟨.hbm, 678, rfl⟩
abbrev main_v466 : Ref sig .tc := ⟨.hbm, 679, rfl⟩
abbrev main_v467 : Ref sig .tc := ⟨.hbm, 680, rfl⟩
abbrev main_v468 : Ref sig .tc := ⟨.hbm, 681, rfl⟩
abbrev main_v469 : Ref sig .tc := ⟨.hbm, 682, rfl⟩
abbrev main_v470 : Ref sig .tc := ⟨.hbm, 683, rfl⟩
abbrev main_v471 : Ref sig .tc := ⟨.hbm, 684, rfl⟩
abbrev main_cst_143 : Ref sig .tc := ⟨.hbm, 685, rfl⟩
abbrev main_v472 : Ref sig .tc := ⟨.hbm, 686, rfl⟩
abbrev main_v473 : Ref sig .tc := ⟨.hbm, 687, rfl⟩
abbrev main_cst_144 : Ref sig .tc := ⟨.hbm, 688, rfl⟩
abbrev main_v474 : Ref sig .tc := ⟨.hbm, 689, rfl⟩
abbrev main_v475 : Ref sig .tc := ⟨.hbm, 690, rfl⟩
abbrev main_v476 : Ref sig .tc := ⟨.hbm, 691, rfl⟩
abbrev main_v477 : Ref sig .tc := ⟨.hbm, 692, rfl⟩
abbrev main_cst_145 : Ref sig .tc := ⟨.hbm, 693, rfl⟩
abbrev main_v478 : Ref sig .tc := ⟨.hbm, 694, rfl⟩
abbrev main_v479 : Ref sig .tc := ⟨.hbm, 695, rfl⟩
abbrev main_cst_146 : Ref sig .tc := ⟨.hbm, 696, rfl⟩
abbrev main_v480 : Ref sig .tc := ⟨.hbm, 697, rfl⟩
abbrev main_v481 : Ref sig .tc := ⟨.hbm, 698, rfl⟩
abbrev main_c_147 : Ref sig .tc := ⟨.hbm, 699, rfl⟩
abbrev main_c_148 : Ref sig .tc := ⟨.hbm, 700, rfl⟩
abbrev main_call13_v0 : Ref sig .tc := ⟨.hbm, 701, rfl⟩
abbrev main_call13_v1 : Ref sig .tc := ⟨.hbm, 702, rfl⟩
abbrev main_call13_v2 : Ref sig .tc := ⟨.hbm, 703, rfl⟩
abbrev main_call13_v3 : Ref sig .tc := ⟨.hbm, 704, rfl⟩
abbrev main_call13_v4 : Ref sig .tc := ⟨.hbm, 705, rfl⟩
abbrev main_v482 : Ref sig .tc := ⟨.hbm, 706, rfl⟩
abbrev main_v483 : Ref sig .tc := ⟨.hbm, 707, rfl⟩
abbrev main_v484 : Ref sig .tc := ⟨.hbm, 708, rfl⟩
abbrev main_v485 : Ref sig .tc := ⟨.hbm, 709, rfl⟩
abbrev main_c_149 : Ref sig .tc := ⟨.hbm, 710, rfl⟩
abbrev main_v486 : Ref sig .tc := ⟨.hbm, 711, rfl⟩
abbrev main_v487 : Ref sig .tc := ⟨.hbm, 712, rfl⟩
abbrev main_c_150 : Ref sig .tc := ⟨.hbm, 713, rfl⟩
abbrev main_v488 : Ref sig .tc := ⟨.hbm, 714, rfl⟩
abbrev main_v489 : Ref sig .tc := ⟨.hbm, 715, rfl⟩
abbrev main_v490 : Ref sig .tc := ⟨.hbm, 716, rfl⟩
abbrev main_c_151 : Ref sig .tc := ⟨.hbm, 717, rfl⟩
abbrev main_v491 : Ref sig .tc := ⟨.hbm, 718, rfl⟩
abbrev main_v492 : Ref sig .tc := ⟨.hbm, 719, rfl⟩
abbrev main_c_152 : Ref sig .tc := ⟨.hbm, 720, rfl⟩
abbrev main_v493 : Ref sig .tc := ⟨.hbm, 721, rfl⟩
abbrev main_v494 : Ref sig .tc := ⟨.hbm, 722, rfl⟩
abbrev main_v495 : Ref sig .tc := ⟨.hbm, 723, rfl⟩
abbrev main_c_153 : Ref sig .tc := ⟨.hbm, 724, rfl⟩
abbrev main_v496 : Ref sig .tc := ⟨.hbm, 725, rfl⟩
abbrev main_v497 : Ref sig .tc := ⟨.hbm, 726, rfl⟩
abbrev main_c_154 : Ref sig .tc := ⟨.hbm, 727, rfl⟩
abbrev main_v498 : Ref sig .tc := ⟨.hbm, 728, rfl⟩
abbrev main_v499 : Ref sig .tc := ⟨.hbm, 729, rfl⟩
abbrev main_v500 : Ref sig .tc := ⟨.hbm, 730, rfl⟩
abbrev main_c_155 : Ref sig .tc := ⟨.hbm, 731, rfl⟩
abbrev main_v501 : Ref sig .tc := ⟨.hbm, 732, rfl⟩
abbrev main_v502 : Ref sig .tc := ⟨.hbm, 733, rfl⟩
abbrev main_c_156 : Ref sig .tc := ⟨.hbm, 734, rfl⟩
abbrev main_v503 : Ref sig .tc := ⟨.hbm, 735, rfl⟩
abbrev main_v504 : Ref sig .tc := ⟨.hbm, 736, rfl⟩
abbrev main_v505 : Ref sig .tc := ⟨.hbm, 737, rfl⟩
abbrev main_v506 : Ref sig .tc := ⟨.hbm, 738, rfl⟩
abbrev main_v507 : Ref sig .tc := ⟨.hbm, 739, rfl⟩
abbrev main_v508 : Ref sig .tc := ⟨.hbm, 740, rfl⟩
abbrev main_v509 : Ref sig .tc := ⟨.hbm, 741, rfl⟩
abbrev main_v510 : Ref sig .tc := ⟨.hbm, 742, rfl⟩
abbrev main_v511 : Ref sig .tc := ⟨.hbm, 743, rfl⟩
abbrev main_v512 : Ref sig .tc := ⟨.hbm, 744, rfl⟩
abbrev main_v513 : Ref sig .tc := ⟨.hbm, 745, rfl⟩
abbrev main_v514 : Ref sig .tc := ⟨.hbm, 746, rfl⟩
abbrev main_v515 : Ref sig .tc := ⟨.hbm, 747, rfl⟩
abbrev main_v516 : Ref sig .tc := ⟨.hbm, 748, rfl⟩
abbrev main_v517 : Ref sig .tc := ⟨.hbm, 749, rfl⟩
abbrev main_v518 : Ref sig .tc := ⟨.hbm, 750, rfl⟩
abbrev main_v519 : Ref sig .tc := ⟨.hbm, 751, rfl⟩
abbrev main_v520 : Ref sig .tc := ⟨.hbm, 752, rfl⟩
abbrev main_v521 : Ref sig .tc := ⟨.hbm, 753, rfl⟩
abbrev main_v522 : Ref sig .tc := ⟨.hbm, 754, rfl⟩
abbrev main_v523 : Ref sig .tc := ⟨.hbm, 755, rfl⟩
abbrev main_v524 : Ref sig .tc := ⟨.hbm, 756, rfl⟩
abbrev main_v525 : Ref sig .tc := ⟨.hbm, 757, rfl⟩
abbrev main_v526 : Ref sig .tc := ⟨.hbm, 758, rfl⟩
abbrev main_v527 : Ref sig .tc := ⟨.hbm, 759, rfl⟩
abbrev main_v528 : Ref sig .tc := ⟨.hbm, 760, rfl⟩
abbrev main_v529 : Ref sig .tc := ⟨.hbm, 761, rfl⟩
abbrev main_v530 : Ref sig .tc := ⟨.hbm, 762, rfl⟩
abbrev main_v531 : Ref sig .tc := ⟨.hbm, 763, rfl⟩
abbrev main_v532 : Ref sig .tc := ⟨.hbm, 764, rfl⟩

abbrev nD : Nat := 1
abbrev τ : Topo := Topo.v7x

variable {F : FTy → Type} [FloatOps F]
-- ==== Proof.Interp.lean ====
/- Linear interpolation on a row of cells, in two spellings, with real weights and extended-real values.
   One spelling gives every cell a weight (the "hat" of the distance, plus what sticks out over each end of the row);
   the other adds two taps, the cells on the two sides of the point, each clipped into the row. -/
module

public import Mathlib.Data.EReal.Operations
public import Mathlib.Algebra.Order.Floor.Ring
public import Mathlib.Algebra.BigOperators.Fin
public import Mathlib.Tactic.Linarith
public import Mathlib.Tactic.Positivity
public import Mathlib.Tactic.Ring

@[expose] public section

noncomputable section

namespace Cert.Slice

/-- The hat function: `1 - |t|` where that is positive, zero elsewhere. -/
def hat (t : ℝ) : ℝ := max (1 - |t|) 0

theorem hat_nonneg (t : ℝ) : 0 ≤ hat t := le_max_right _ _

theorem hat_neg (t : ℝ) : hat (-t) = hat t := by unfold hat; rw [abs_neg]

/-- The weight of cell `c`, of `n` cells with centres `c + 1/2`, at the point `p`: the hat of the distance, and at the two end
    cells also the part that lies beyond the end cell's centre. -/
def cellWeight (n : ℕ) (p : ℝ) (c : ℕ) : ℝ :=
  hat (c + 1 / 2 - p) + (if c = 0 then max (1 / 2 - p) 0 else 0) + (if c + 1 = n then max (p - (n - 1 / 2)) 0 else 0)

theorem cellWeight_nonneg (n : ℕ) (p : ℝ) (c : ℕ) : 0 ≤ cellWeight n p c := by
  unfold cellWeight
  have := hat_nonneg (c + 1 / 2 - p)
  split_ifs <;> positivity

/-- The cell of tap `d` (0 or 1): the cell at or left of the point, or the next one, clipped into the row of `n` cells. -/
def tap (n : ℕ) (p : ℝ) (d : ℕ) : ℕ := (min ((n : ℤ) - 1) (max 0 (⌊p - 1 / 2⌋ + d))).toNat

/-- The weight of tap `d`: the hat of its distance before clipping. -/
def tapWeight (p : ℝ) (d : ℕ) : ℝ := hat ((⌊p - 1 / 2⌋ : ℝ) + d + 1 / 2 - p)

theorem tapWeight_nonneg (p : ℝ) (d : ℕ) : 0 ≤ tapWeight p d := hat_nonneg _

theorem tap_lt (n : ℕ) (hn : 0 < n) (p : ℝ) (d : ℕ) : tap n p d < n := by unfold tap; omega

/-- Tap 0's weight is one minus the point's offset from the tap's centre. -/
theorem tapWeight_zero (p : ℝ) : tapWeight p 0 = 1 - (p - 1 / 2 - ⌊p - 1 / 2⌋) := by
  have h0 := Int.floor_le (p - 1 / 2)
  have h1 := Int.lt_floor_add_one (p - 1 / 2)
  unfold tapWeight hat
  rw [abs_of_nonpos (by push_cast; linarith), max_eq_left (by push_cast; linarith)]
  push_cast; ring

/-- Tap 1's weight is the point's offset from tap 0's centre. -/
theorem tapWeight_one (p : ℝ) : tapWeight p 1 = p - 1 / 2 - ⌊p - 1 / 2⌋ := by
  have h0 := Int.floor_le (p - 1 / 2)
  have h1 := Int.lt_floor_add_one (p - 1 / 2)
  unfold tapWeight hat
  rw [abs_of_nonneg (by push_cast; linarith), max_eq_left (by push_cast; linarith)]
  push_cast; ring

/-- A cell's weight is the sum of the weights of the taps that fall on it. -/
theorem cellWeight_eq_taps (n : ℕ) (hn : 1 < n) (p : ℝ) (hp0 : 0 ≤ p) (hpn : p ≤ n) (c : ℕ) (hc : c < n) :
    cellWeight n p c = (if c = tap n p 0 then tapWeight p 0 else 0) + (if c = tap n p 1 then tapWeight p 1 else 0) := by
  rw [tapWeight_zero, tapWeight_one]
  have h0 := Int.floor_le (p - 1 / 2)
  have h1 := Int.lt_floor_add_one (p - 1 / 2)
  unfold cellWeight tap
  generalize hf : ⌊p - 1 / 2⌋ = f at *
  have hfl : -1 ≤ f := by
    have : (-2 : ℝ) < f := by linarith
    exact_mod_cast this
  have hfu : f < n := by
    have : (f : ℝ) < n := by linarith
    exact_mod_cast this
  have hc' : (c : ℝ) + 1 ≤ n := by exact_mod_cast hc
  have hc0 : (0 : ℝ) ≤ c := Nat.cast_nonneg c
  have hn' : (2 : ℝ) ≤ n := by exact_mod_cast hn
  -- the hat of the cell's distance, by where the cell lies against the point
  have hat_far : (c : ℤ) < f ∨ f + 1 < c → hat (c + 1 / 2 - p) = 0 := by
    intro h
    unfold hat
    apply max_eq_right
    rcases h with h | h
    · have : (c : ℝ) + 1 ≤ f := by exact_mod_cast h
      rw [abs_of_nonpos (by linarith)]; linarith
    · have : (f : ℝ) + 2 ≤ c := by exact_mod_cast (by omega : f + 2 ≤ (c : ℤ))
      rw [abs_of_nonneg (by linarith)]; linarith
  have hat_left : (c : ℤ) = f → hat (c + 1 / 2 - p) = 1 - (p - 1 / 2 - f) := by
    intro h
    have h' : (c : ℝ) = f := by exact_mod_cast h
    unfold hat
    rw [h', abs_of_nonpos (by linarith), max_eq_left (by linarith)]; ring
  have hat_right : (c : ℤ) = f + 1 → hat (c + 1 / 2 - p) = p - 1 / 2 - f := by
    intro h
    have h' : (c : ℝ) = f + 1 := by exact_mod_cast h
    unfold hat
    rw [h', abs_of_nonneg (by linarith), max_eq_left (by linarith)]; ring
  -- what sticks out at the two ends
  have lo_in : 0 ≤ f → max (1 / 2 - p) 0 = 0 := by
    intro h
    have : (0 : ℝ) ≤ f := by exact_mod_cast h
    exact max_eq_right (by linarith)
  have lo_out : f = -1 → max (1 / 2 - p) 0 = 1 / 2 - p := by
    intro h
    have : (f : ℝ) = -1 := by exact_mod_cast h
    exact max_eq_left (by linarith)
  have hi_in : f + 1 < n → max (p - (n - 1 / 2)) 0 = 0 := by
    intro h
    have : (f : ℝ) + 2 ≤ n := by exact_mod_cast (by omega : f + 2 ≤ (n : ℤ))
    exact max_eq_right (by linarith)
  have hi_out : f + 1 = n → max (p - (n - 1 / 2)) 0 = p - (n - 1 / 2) := by
    intro h
    have : (f : ℝ) + 1 = n := by exact_mod_cast h
    exact max_eq_left (by linarith)
  rcases (show f = -1 ∨ (0 ≤ f ∧ f + 1 < n) ∨ f + 1 = n by omega) with h | h | h
  · have hfr : (f : ℝ) = -1 := by exact_mod_cast h
    rw [lo_out h, hi_in (by omega), ite_self]
    by_cases hc1 : c = 0
    · rw [if_pos hc1, if_pos (by omega), if_pos (by omega), hat_right (by omega), hfr]
      ring
    · rw [if_neg hc1, if_neg (by omega), if_neg (by omega), hat_far (by omega)]
      ring
  · rw [lo_in h.1, hi_in h.2, ite_self, ite_self]
    rcases (show ((c : ℤ) < f ∨ f + 1 < c) ∨ (c : ℤ) = f ∨ (c : ℤ) = f + 1 by omega) with h' | h' | h'
    · rw [hat_far h', if_neg (by omega), if_neg (by omega)]
      ring
    · rw [hat_left h', if_pos (by omega), if_neg (by omega)]
      ring
    · rw [hat_right h', if_neg (by omega), if_pos (by omega)]
      ring
  · have hfr : (f : ℝ) + 1 = n := by exact_mod_cast h
    rw [lo_in (by omega), hi_out h, ite_self]
    by_cases hc1 : c + 1 = n
    · rw [if_pos hc1, if_pos (by omega), if_pos (by omega), hat_left (by omega)]
      linarith
    · rw [if_neg hc1, if_neg (by omega), if_neg (by omega), hat_far (by omega)]
      ring

/-- A sum of nonnegative reals, taken as extended reals, times a value: the sum of the products. -/
theorem coe_add_mul {a b : ℝ} (ha : 0 ≤ a) (hb : 0 ≤ b) (x : EReal) :
    (((a + b : ℝ)) : EReal) * x = (a : EReal) * x + (b : EReal) * x := by
  rw [EReal.coe_add]
  exact EReal.right_distrib_of_nonneg (EReal.coe_nonneg.mpr ha) (EReal.coe_nonneg.mpr hb)

/-- A nonnegative real, taken as an extended real, times a sum of two values: the sum of the products. -/
theorem coe_mul_add {a : ℝ} (ha : 0 ≤ a) (x y : EReal) : (a : EReal) * (x + y) = (a : EReal) * x + (a : EReal) * y :=
  EReal.left_distrib_of_nonneg_of_ne_top (EReal.coe_nonneg.mpr ha) (EReal.coe_ne_top a) x y

/-- A sum of values, each weighed by its cell's weight, is the sum of the two taps. -/
theorem sum_cellWeight (n : ℕ) (hn : 1 < n) (p : ℝ) (hp0 : 0 ≤ p) (hpn : p ≤ n) (G : ℕ → EReal) :
    ∑ c : Fin n, (cellWeight n p c.val : EReal) * G c.val
      = (tapWeight p 0 : EReal) * G (tap n p 0) + (tapWeight p 1 : EReal) * G (tap n p 1) := by
  have hpos := tap_lt n (by omega) p
  have hterm : ∀ c : Fin n, (cellWeight n p c.val : EReal) * G c.val
      = (if c = ⟨tap n p 0, hpos 0⟩ then (tapWeight p 0 : EReal) * G c.val else 0)
        + (if c = ⟨tap n p 1, hpos 1⟩ then (tapWeight p 1 : EReal) * G c.val else 0) := by
    intro c
    rw [cellWeight_eq_taps n hn p hp0 hpn c.val c.isLt, coe_add_mul]
    · simp only [Fin.ext_iff]
      split_ifs <;> simp
    · split_ifs <;> first | exact tapWeight_nonneg _ _ | exact le_refl _
    · split_ifs <;> first | exact tapWeight_nonneg _ _ | exact le_refl _
  rw [Finset.sum_congr rfl fun c _ => hterm c, Finset.sum_add_distrib]
  simp

/-- The position, in cells, of the centre of pixel `w`: 512 pixels to 16 cells, so 32 pixels to a cell. -/
def pixelPos (w : ℕ) : ℝ := (w + 1 / 2) / 32

theorem pixelPos_nonneg (w : ℕ) : 0 ≤ pixelPos w := by unfold pixelPos; positivity

theorem pixelPos_le (w : ℕ) (h : w < 512) : pixelPos w ≤ (16 : ℕ) := by
  have : (w : ℝ) + 1 ≤ 512 := by exact_mod_cast h
  unfold pixelPos
  push_cast
  linarith

end Cert.Slice

end
-- ==== Proof.Consts.lean ====
/- The float constants that the two programs write, read as real numbers, and the elementwise operations on real numbers. -/
module

public import Idealize.ShloMosaic.PureOps.Ideal.Laws
public import Idealize.ShloMosaic.Lib.IdealHost
public import Idealize.ShloMosaic.Lib.StableHlo.Predicate
public import proofs.«01_k».proof.Proof.Interp

@[expose] public section

noncomputable section

namespace Cert.Slice

open Idealize.ShloMosaic

theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]
theorem lit_eight : Ideal.ofBits .f32 0x41000000#32 = ((8 : ℝ) : EReal) := by
  simp [Ideal.ofBits, Ideal.ieee, -EReal.coe_mul]; norm_num
theorem lit_sixteen : Ideal.ofBits .f32 0x41800000#32 = ((16 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_32nd : Ideal.ofBits .f32 0x3D000000#32 = ((1 / 32 : ℝ) : EReal) := by
  simp [Ideal.ofBits, Ideal.ieee, -EReal.coe_mul]; norm_num
theorem lit_fifteen : Ideal.ofBits .f32 0x41700000#32 = ((15 : ℝ) : EReal) := by
  simp [Ideal.ofBits, Ideal.ieee, -EReal.coe_mul]; norm_num
theorem lit_15h : Ideal.ofBits .f32 0x41780000#32 = ((31 / 2 : ℝ) : EReal) := by
  simp [Ideal.ofBits, Ideal.ieee, -EReal.coe_mul]; norm_num
theorem lit_3h : Ideal.ofBits .f32 0x3FC00000#32 = ((3 / 2 : ℝ) : EReal) := by
  simp [Ideal.ofBits, Ideal.ieee, -EReal.coe_mul]; norm_num
theorem lit_5h : Ideal.ofBits .f32 0x40200000#32 = ((5 / 2 : ℝ) : EReal) := by
  simp [Ideal.ofBits, Ideal.ieee, -EReal.coe_mul]; norm_num
theorem lit_7h : Ideal.ofBits .f32 0x40600000#32 = ((7 / 2 : ℝ) : EReal) := by
  simp [Ideal.ofBits, Ideal.ieee, -EReal.coe_mul]; norm_num
theorem lit_9h : Ideal.ofBits .f32 0x40900000#32 = ((9 / 2 : ℝ) : EReal) := by
  simp [Ideal.ofBits, Ideal.ieee, -EReal.coe_mul]; norm_num
theorem lit_11h : Ideal.ofBits .f32 0x40B00000#32 = ((11 / 2 : ℝ) : EReal) := by
  simp [Ideal.ofBits, Ideal.ieee, -EReal.coe_mul]; norm_num
theorem lit_13h : Ideal.ofBits .f32 0x40D00000#32 = ((13 / 2 : ℝ) : EReal) := by
  simp [Ideal.ofBits, Ideal.ieee, -EReal.coe_mul]; norm_num
theorem lit_15_2 : Ideal.ofBits .f32 0x40F00000#32 = ((15 / 2 : ℝ) : EReal) := by
  simp [Ideal.ofBits, Ideal.ieee, -EReal.coe_mul]; norm_num

/-- The larger of two reals, taken among the extended reals. -/
theorem coe_max (a b : ℝ) : max (a : EReal) (b : EReal) = ((max a b : ℝ) : EReal) := (EReal.coe_strictMono.monotone.map_max).symm
/-- The smaller of two reals, taken among the extended reals. -/
theorem coe_min (a b : ℝ) : min (a : EReal) (b : EReal) = ((min a b : ℝ) : EReal) := (EReal.coe_strictMono.monotone.map_min).symm
/-- The absolute value of a real, taken among the extended reals. -/
theorem coe_abs (a : ℝ) : max (a : EReal) (-(a : EReal)) = ((|a| : ℝ) : EReal) := by
  rw [← EReal.coe_neg, coe_max]; rfl

/-- `max (1 - |t|) 0` over the extended reals, at a real, is the hat function. -/
theorem coe_hat (t : ℝ) : max (((1 : ℝ) : EReal) - max (t : EReal) (-(t : EReal))) ((0 : ℝ) : EReal) = ((hat t : ℝ) : EReal) := by
  rw [coe_abs, ← EReal.coe_sub, coe_max]; rfl

/-- A small natural number, as a 32-bit word, converted to a float. -/
theorem sitofp_nat (φ : FTy) (n : ℕ) (h : n < 2 ^ 31) : FloatOps.sitofp (F := Ideal) φ (BitVec.ofNat 32 n) = ((n : ℝ) : EReal) := by
  show (((BitVec.ofNat 32 n).toInt : ℝ) : EReal) = _
  rw [StableHlo.Predicate.toInt_ofNat_small n h]
  norm_num

/-- The position of a pixel's centre, as the kernel computes it. -/
theorem coe_pixelPos (w : ℕ) : (((w : ℝ) : EReal) + ((1 / 2 : ℝ) : EReal)) * ((1 / 32 : ℝ) : EReal) = ((pixelPos w : ℝ) : EReal) := by
  rw [← EReal.coe_add, ← EReal.coe_mul]
  unfold pixelPos
  congr 1; ring

/-- A cell's weight as the programs compute it: the hat of the distance, and what sticks out over the two ends. -/
theorem coe_cellWeight (n c : ℕ) (p : ℝ) :
    ((max (1 - FloatOps.absf (F := Ideal) (φ := .f32) (((c : ℝ) : EReal) + ((1 / 2 : ℝ) : EReal) - (p : EReal))) 0
        + if c = 0 then max (((1 / 2 : ℝ) : EReal) - (p : EReal)) 0 else 0)
      + if c + 1 = n then max ((p : EReal) - ((n - 1 / 2 : ℝ) : EReal)) 0 else 0) = ((cellWeight n p c : ℝ) : EReal) := by
  rw [Ideal.absf_def, ← EReal.coe_add, ← EReal.coe_sub, ← EReal.coe_sub, ← EReal.coe_sub, ← EReal.coe_zero, ← EReal.coe_one, coe_hat, coe_max, coe_max]
  unfold cellWeight
  split_ifs <;> simp only [EReal.coe_add, EReal.coe_zero]

end Cert.Slice

end
-- ==== Proof.KernelBlock.lean ====
/- What one block of the kernel computes: one output channel of a tile as an affine map of the image, its four coefficients the grid
   interpolated down the rows, across the columns, and along the depth. -/
module

public import proofs.«01_k».proof.Proof.Gen.KernelIdeal.Frame
public import Idealize.ShloMosaic.Lib.Pointwise
public import proofs.«01_k».proof.Proof.Consts

@[expose] public section

set_option maxRecDepth 16384

noncomputable section

namespace Cert.KernelIdeal.Block

open Cert.KernelIdeal Cert.KernelIdeal.Gen Cert.Slice
open Idealize.ShloMosaic Idealize.ShloMosaic.TcCoe Idealize.SL.Sem

variable {F : FTy → Type} [FloatOps F]
variable (i : grid0.Coords) (x0 : Vec F S1x16x1536 .f32) (x1 : Vec F S128x4096 .bf16) (x2 : Vec F S1x128x512 .f32) (x3 : Vec F S1x3x128x512 .f32)

/-- The columns `[off, off + 128)` of the row-interpolated grid, times the table of horizontal weights. -/
def sheet (off : Nat) (h : S128x1536.Slices ![0, off] S128x128) : FVec F S128x4096 .f32 :=
  matmul dot_S128x128_S128x4096_S128x4096_1_0_0_1_n_n none (extractStridedSlice S128x128 ![0, off] (k0_pay42 i x0 x1 x2 x3) h) (k0_pay40 i x0 x1 x2 x3) (constant S128x4096 .f32 0x00000000#32)

/-- The eight depth cells of a sheet, weighted and added. -/
def blend (T : FVec F S128x4096 .f32) : FVec F S128x512 .f32 :=
  addf (addf (addf (addf (addf (addf (addf (mulf (k0_pay32 i x0 x1 x2 x3) (extractStridedSlice S128x512 ![0, 0] T slices_S128x4096_o0_0_S128x512))
    (mulf (k0_pay33 i x0 x1 x2 x3) (extractStridedSlice S128x512 ![0, 512] T slices_S128x4096_o0_512_S128x512)))
    (mulf (k0_pay34 i x0 x1 x2 x3) (extractStridedSlice S128x512 ![0, 1024] T slices_S128x4096_o0_1024_S128x512)))
    (mulf (k0_pay35 i x0 x1 x2 x3) (extractStridedSlice S128x512 ![0, 1536] T slices_S128x4096_o0_1536_S128x512)))
    (mulf (k0_pay36 i x0 x1 x2 x3) (extractStridedSlice S128x512 ![0, 2048] T slices_S128x4096_o0_2048_S128x512)))
    (mulf (k0_pay37 i x0 x1 x2 x3) (extractStridedSlice S128x512 ![0, 2560] T slices_S128x4096_o0_2560_S128x512)))
    (mulf (k0_pay38 i x0 x1 x2 x3) (extractStridedSlice S128x512 ![0, 3072] T slices_S128x4096_o0_3072_S128x512)))
    (mulf (k0_pay39 i x0 x1 x2 x3) (extractStridedSlice S128x512 ![0, 3584] T slices_S128x4096_o0_3584_S128x512))

/-- One channel of the image tile. -/
def layer (o : Nat) (h : S3x128x512.Slices ![o, 0, 0] S1x128x512) : FVec F S128x512 .f32 :=
  shapeCast S128x512 (extractStridedSlice S1x128x512 ![o, 0, 0] (k0_pay41 i x0 x1 x2 x3) h) shapeCasts_S1x128x512_S128x512

/-- One output channel from its four coefficient sheets. -/
def channel (T0 T1 T2 T3 : FVec F S128x4096 .f32) : FVec F S1x1x128x512 .f32 :=
  shapeCast S1x1x128x512 (addf (addf (addf
    (mulf (blend i x0 x1 x2 x3 T0) (layer i x0 x1 x2 x3 0 slices_S3x128x512_o0_0_0_S1x128x512))
    (mulf (blend i x0 x1 x2 x3 T1) (layer i x0 x1 x2 x3 1 slices_S3x128x512_o1_0_0_S1x128x512)))
    (mulf (blend i x0 x1 x2 x3 T2) (layer i x0 x1 x2 x3 2 slices_S3x128x512_o2_0_0_S1x128x512)))
    (blend i x0 x1 x2 x3 T3)) shapeCasts_S128x512_S1x1x128x512

/-- The output buffer after the body: the three channels, each an affine map of the image. -/
theorem out_eq : out0_4 i x0 x1 x2 x3 = View.canon [
    ⟨r0_6, channel i x0 x1 x2 x3 (sheet i x0 x1 x2 x3 1024 slices_S128x1536_o0_1024_S128x128)
      (sheet i x0 x1 x2 x3 1152 slices_S128x1536_o0_1152_S128x128)
      (sheet i x0 x1 x2 x3 1280 slices_S128x1536_o0_1280_S128x128)
      (sheet i x0 x1 x2 x3 1408 slices_S128x1536_o0_1408_S128x128)⟩,
    ⟨r0_5, channel i x0 x1 x2 x3 (sheet i x0 x1 x2 x3 512 slices_S128x1536_o0_512_S128x128)
      (sheet i x0 x1 x2 x3 640 slices_S128x1536_o0_640_S128x128)
      (sheet i x0 x1 x2 x3 768 slices_S128x1536_o0_768_S128x128)
      (sheet i x0 x1 x2 x3 896 slices_S128x1536_o0_896_S128x128)⟩,
    ⟨r0_4, channel i x0 x1 x2 x3 (sheet i x0 x1 x2 x3 0 slices_S128x1536_o0_0_S128x128)
      (sheet i x0 x1 x2 x3 128 slices_S128x1536_o0_128_S128x128)
      (sheet i x0 x1 x2 x3 256 slices_S128x1536_o0_256_S128x128)
      (sheet i x0 x1 x2 x3 384 slices_S128x1536_o0_384_S128x128)⟩] := rfl

section Values
variable (i : grid0.Coords) (x0 : Vec Ideal S1x16x1536 .f32) (x1 : Vec Ideal S128x4096 .bf16) (x2 : Vec Ideal S1x128x512 .f32) (x3 : Vec Ideal S1x3x128x512 .f32)

/-- The vertical position of row `r` of the tile at coordinates `i`. -/
abbrev rowPos (i : grid0.Coords) (r : Fin 128) : ℝ := pixelPos (r.val + (i 1).val * 128)

/-- The row number as the body computes it. -/
theorem rowOff_word (r : Fin 128) : IntOp.addi (BitVec.ofNat 32 r.val) (Scalar.muli (BitVec.ofNat 32 (i 1).val) 128#32) = BitVec.ofNat 32 (r.val + (i 1).val * 128) := by
  apply BitVec.eq_of_toNat_eq
  simp [IntOp.addi, Scalar.muli, IntOp.muli]

/-- The grid interpolated down the rows: row `r` of the tile takes its cells' weights. -/
theorem rows_apply (r : Fin 128) (q : Fin 1536) :
    k0_pay42 i x0 x1 x2 x3 (ix2 r q) = ∑ y : Fin 16, (cellWeight 16 (rowPos i r) y.val : EReal) * x0 (ix3 0 y q) := by
  unfold k0_pay42 k0_pay15 k0_pay30 k0_pay2
  pointwise
  refine Finset.sum_congr rfl fun y _ => congrArg (· * x0 (ix3 0 y q)) ?_
  have hi : (i 1).val < 4 := (i 1).isLt
  have hr := r.isLt
  rw [rowOff_word, sitofp_nat _ _ (by omega), sitofp_nat _ _ (by omega), lit_half, lit_32nd, lit_15h, lit_fifteen, coe_pixelPos, ← coe_cellWeight]
  have h0 : (((y.val : ℝ) : EReal) = 0) ↔ y.val = 0 := by
    rw [← EReal.coe_zero, EReal.coe_eq_coe_iff]; norm_cast
  have h1 : (((y.val : ℝ) : EReal) = ((15 : ℝ) : EReal)) ↔ y.val + 1 = 16 := by
    rw [EReal.coe_eq_coe_iff]
    constructor
    · intro h
      have : y.val = 15 := by exact_mod_cast h
      omega
    · intro h
      have : y.val = 15 := by omega
      rw [this]; norm_num
  simp only [h0, h1]
  norm_num

/-- A sheet at an index. -/
theorem sheet_apply (off : Nat) (h : S128x1536.Slices ![0, off] S128x128) (hoff : off + 128 ≤ 1536) (r : Fin 128) (q : Fin 4096) :
    sheet i x0 x1 x2 x3 off h (ix2 r q)
      = ∑ j : Fin 128, k0_pay42 i x0 x1 x2 x3 (ix2 r ⟨off + j.val, by omega⟩) * x1 (ix2 j q) := by
  unfold sheet k0_pay40 k0_pay13
  pointwise

/-- A channel of the image tile at an index. -/
theorem layer_apply (o : Nat) (h : S3x128x512.Slices ![o, 0, 0] S1x128x512) (ho : o < 3) (r : Fin 128) (w : Fin 512) :
    layer i x0 x1 x2 x3 o h (ix2 r w) = x3 (ix4 0 ⟨o, ho⟩ r w) := by
  unfold layer k0_pay41 k0_pay14
  pointwise

/-- A depth cell away from both ends weighs the hat of its distance. -/
theorem coe_inner (k : ℕ) (g h : ℝ) (h0 : 0 < k) (h7 : k + 1 < 8) (hh : h = k + 1 / 2) :
    max (1 - FloatOps.absf (F := Ideal) (φ := .f32) ((g : EReal) - (h : EReal))) 0 = ((cellWeight 8 g k : ℝ) : EReal) := by
  rw [Ideal.absf_def, ← EReal.coe_sub, ← EReal.coe_zero, ← EReal.coe_one, coe_hat]
  unfold cellWeight
  rw [if_neg (by omega), if_neg (by omega), add_zero, add_zero, ← hat_neg, hh, neg_sub]

/-- The first depth cell. -/
theorem coe_first (g : ℝ) :
    max (1 - FloatOps.absf (F := Ideal) (φ := .f32) ((g : EReal) - ((1 / 2 : ℝ) : EReal))) 0 + max (((1 / 2 : ℝ) : EReal) - (g : EReal)) 0 = ((cellWeight 8 g 0 : ℝ) : EReal) := by
  rw [Ideal.absf_def, ← EReal.coe_sub, ← EReal.coe_sub, ← EReal.coe_zero, ← EReal.coe_one, coe_hat, coe_max, ← EReal.coe_add]
  unfold cellWeight
  rw [if_pos rfl, if_neg (by omega), add_zero, ← hat_neg]
  norm_num

/-- The last depth cell. -/
theorem coe_last (g : ℝ) :
    max (1 - FloatOps.absf (F := Ideal) (φ := .f32) ((g : EReal) - ((15 / 2 : ℝ) : EReal))) 0 + max ((g : EReal) - ((15 / 2 : ℝ) : EReal)) 0 = ((cellWeight 8 g 7 : ℝ) : EReal) := by
  rw [Ideal.absf_def, ← EReal.coe_sub, ← EReal.coe_zero, ← EReal.coe_one, coe_hat, coe_max, ← EReal.coe_add]
  unfold cellWeight
  rw [if_neg (by omega), if_pos (by omega), add_zero, ← hat_neg]
  norm_num

/-- The scaled guide at an index. -/
theorem scaled_apply (r : Fin 128) (w : Fin 512) (u : ℝ) (hu : x2 (ix3 0 r w) = (u : EReal)) :
    k0_pay3 (View.ld x2 r0_1) (ix2 r w) = ((u * 8 : ℝ) : EReal) := by
  unfold k0_pay3
  pointwise
  rw [hu, lit_eight, ← EReal.coe_mul]

/-- The eight depth cells of a sheet at an index, where the guide is a real: each takes its cell's weight. -/
theorem blend_apply (T : FVec Ideal S128x4096 .f32) (r : Fin 128) (w : Fin 512) (u : ℝ) (hu : x2 (ix3 0 r w) = (u : EReal)) :
    blend i x0 x1 x2 x3 T (ix2 r w)
      = ∑ k : Fin 8, (cellWeight 8 (u * 8) k.val : EReal) * T (ix2 r ⟨512 * k.val + w.val, by omega⟩) := by
  have hs := scaled_apply x2 r w u hu
  unfold blend k0_pay32 k0_pay33 k0_pay34 k0_pay35 k0_pay36 k0_pay37 k0_pay38 k0_pay39 k0_pay31 k0_pay4 k0_pay5 k0_pay6 k0_pay7 k0_pay8 k0_pay9 k0_pay10 k0_pay11 k0_pay12
  generalize k0_pay3 (View.ld x2 r0_1) = G at hs ⊢
  pointwise
  rw [hs, lit_half, lit_3h, lit_5h, lit_7h, lit_9h, lit_11h, lit_13h, lit_15_2, coe_first, coe_last,
    coe_inner 1 _ _ (by omega) (by omega) (by norm_num), coe_inner 2 _ _ (by omega) (by omega) (by norm_num),
    coe_inner 3 _ _ (by omega) (by omega) (by norm_num), coe_inner 4 _ _ (by omega) (by omega) (by norm_num),
    coe_inner 5 _ _ (by omega) (by omega) (by norm_num), coe_inner 6 _ _ (by omega) (by omega) (by norm_num), Fin.sum_univ_eight]
  have e : (⟨512 * (0 : Fin 8).val + w.val, by have := w.isLt; omega⟩ : Fin 4096) = ⟨w.val, by have := w.isLt; omega⟩ := Fin.ext (by simp)
  rw [e]
  rfl

/-- Coefficient `ch` of the affine map at a pixel of the tile, the guide there being `u`. -/
def coeff (u : ℝ) (r : Fin 128) (w : Fin 512) (ch : Nat) (hch : ch < 12) : EReal :=
  ∑ k : Fin 8, (cellWeight 8 (u * 8) k.val : EReal) * ∑ j : Fin 128,
    (∑ y : Fin 16, (cellWeight 16 (rowPos i r) y.val : EReal) * x0 (ix3 0 y ⟨128 * ch + j.val, by omega⟩)) * x1 (ix2 j ⟨512 * k.val + w.val, by omega⟩)

/-- A blended sheet is a coefficient. -/
theorem blend_sheet (off ch : Nat) (h : S128x1536.Slices ![0, off] S128x128) (hch : ch < 12) (hoff : off = 128 * ch)
    (r : Fin 128) (w : Fin 512) (u : ℝ) (hu : x2 (ix3 0 r w) = (u : EReal)) :
    blend i x0 x1 x2 x3 (sheet i x0 x1 x2 x3 off h) (ix2 r w) = coeff i x0 x1 u r w ch hch := by
  subst hoff
  rw [blend_apply i x0 x1 x2 x3 _ r w u hu]
  refine Finset.sum_congr rfl fun k _ => congrArg (_ * ·) ?_
  rw [sheet_apply i x0 x1 x2 x3 _ h (by omega)]
  exact Finset.sum_congr rfl fun j _ => congrArg (· * _) (rows_apply ..)

/-- One output channel at a pixel. -/
theorem channel_apply (T0 T1 T2 T3 : FVec Ideal S128x4096 .f32) (r : Fin 128) (w : Fin 512) :
    channel i x0 x1 x2 x3 T0 T1 T2 T3 (ix4 0 0 r w)
      = ((blend i x0 x1 x2 x3 T0 (ix2 r w) * x3 (ix4 0 0 r w) + blend i x0 x1 x2 x3 T1 (ix2 r w) * x3 (ix4 0 1 r w))
        + blend i x0 x1 x2 x3 T2 (ix2 r w) * x3 (ix4 0 2 r w)) + blend i x0 x1 x2 x3 T3 (ix2 r w) := by
  unfold channel
  pointwise
  rw [layer_apply _ _ _ _ _ _ _ (by omega), layer_apply _ _ _ _ _ _ _ (by omega), layer_apply _ _ _ _ _ _ _ (by omega)]
  rfl

/-- The output at channel `o` of a pixel of the tile, the guide there being `u`. -/
def pixel (u : ℝ) (o : Fin 3) (r : Fin 128) (w : Fin 512) : EReal :=
  ((coeff i x0 x1 u r w (4 * o.val) (by omega) * x3 (ix4 0 0 r w) + coeff i x0 x1 u r w (4 * o.val + 1) (by omega) * x3 (ix4 0 1 r w))
    + coeff i x0 x1 u r w (4 * o.val + 2) (by omega) * x3 (ix4 0 2 r w)) + coeff i x0 x1 u r w (4 * o.val + 3) (by omega)

/-- A pixel of a channel, placed in the output tile. -/
theorem emb_row (o : Nat) (ho : o < 3) (inb) (r : Fin 128) (w : Fin 512) :
    (Rect.unit (s := S1x3x128x512) ![0, o, 0, 0] S1x1x128x512.size inb).emb (ix4 0 0 r w) = ix4 0 ⟨o, ho⟩ r w :=
  funext fun
    | 0 => Fin.ext (by show 0 + 1 * 0 = 0; rfl)
    | 1 => Fin.ext (by show o + 1 * 0 = o; rfl)
    | 2 => Fin.ext (by show 0 + 1 * r.val = r.val; omega)
    | 3 => Fin.ext (by show 0 + 1 * w.val = w.val; omega)

/-- A channel's piece holds no other channel's pixel. -/
theorem not_mem_row (o : Nat) (inb) (o' : Fin 3) (h : o'.val ≠ o) (r : Fin 128) (w : Fin 512) :
    (ix4 0 o' r w : S1x3x128x512.Idx) ∉ (Rect.unit (s := S1x3x128x512) ![0, o, 0, 0] S1x1x128x512.size inb).set := fun hm => by
  have h1 : o ≤ o'.val ∧ o'.val < o + 1 := (Rect.mem_set_unit.1 hm) 1
  omega

/-- Three channels stored one after the other: channel `o` holds the piece stored there. -/
theorem canon_channels (p : Fin 3 → Vec Ideal S1x1x128x512 .f32) (o : Fin 3) (r : Fin 128) (w : Fin 512) :
    View.canon (Val := Elt Ideal) (s := S1x3x128x512) (e := .f32) [⟨r0_6, p 2⟩, ⟨r0_5, p 1⟩, ⟨r0_4, p 0⟩] (ix4 0 o r w) = p o (ix4 0 0 r w) := by
  match o with
  | 2 =>
    exact (congrArg _ (emb_row 2 (by omega) inb_S1x3x128x512_S1x1x128x512_0_2_0_0 r w).symm).trans (View.canon_cons_emb r0_6 (p 2) _ (ix4 0 0 r w))
  | 1 =>
    have h2 := not_mem_row 2 inb_S1x3x128x512_S1x1x128x512_0_2_0_0 1 (by decide) r w
    refine (View.canon_cons_of_not_mem (Val := Elt Ideal) (s := S1x3x128x512) (e := .f32) ⟨r0_6, p 2⟩ [⟨r0_5, p 1⟩, ⟨r0_4, p 0⟩] h2).trans ?_
    exact (congrArg _ (emb_row 1 (by omega) inb_S1x3x128x512_S1x1x128x512_0_1_0_0 r w).symm).trans (View.canon_cons_emb r0_5 (p 1) _ (ix4 0 0 r w))
  | 0 =>
    have h2 := not_mem_row 2 inb_S1x3x128x512_S1x1x128x512_0_2_0_0 0 (by decide) r w
    have h1 := not_mem_row 1 inb_S1x3x128x512_S1x1x128x512_0_1_0_0 0 (by decide) r w
    refine (View.canon_cons_of_not_mem (Val := Elt Ideal) (s := S1x3x128x512) (e := .f32) ⟨r0_6, p 2⟩ [⟨r0_5, p 1⟩, ⟨r0_4, p 0⟩] h2).trans ?_
    refine (View.canon_cons_of_not_mem (Val := Elt Ideal) (s := S1x3x128x512) (e := .f32) ⟨r0_5, p 1⟩ [⟨r0_4, p 0⟩] h1).trans ?_
    exact (congrArg _ (emb_row 0 (by omega) inb_S1x3x128x512_S1x1x128x512_0_0_0_0 r w).symm).trans (View.canon_cons_emb r0_4 (p 0) _ (ix4 0 0 r w))

/-- The output buffer after the body, at a pixel whose guide is the real `u`. -/
theorem out_apply (o : Fin 3) (r : Fin 128) (w : Fin 512) (u : ℝ) (hu : x2 (ix3 0 r w) = (u : EReal)) :
    out0_4 i x0 x1 x2 x3 (ix4 0 o r w) = pixel i x0 x1 x3 u o r w := by
  rw [out_eq]
  refine (canon_channels (fun
    | 0 => channel i x0 x1 x2 x3 _ _ _ _
    | 1 => channel i x0 x1 x2 x3 _ _ _ _
    | 2 => channel i x0 x1 x2 x3 _ _ _ _) o r w).trans ?_
  unfold pixel
  match o with
  | 2 =>
    refine (channel_apply ..).trans ?_
    rw [blend_sheet i x0 x1 x2 x3 _ 8 _ (by omega) rfl r w u hu, blend_sheet i x0 x1 x2 x3 _ 9 _ (by omega) rfl r w u hu,
      blend_sheet i x0 x1 x2 x3 _ 10 _ (by omega) rfl r w u hu, blend_sheet i x0 x1 x2 x3 _ 11 _ (by omega) rfl r w u hu]
    rfl
  | 1 =>
    refine (channel_apply ..).trans ?_
    rw [blend_sheet i x0 x1 x2 x3 _ 4 _ (by omega) rfl r w u hu, blend_sheet i x0 x1 x2 x3 _ 5 _ (by omega) rfl r w u hu,
      blend_sheet i x0 x1 x2 x3 _ 6 _ (by omega) rfl r w u hu, blend_sheet i x0 x1 x2 x3 _ 7 _ (by omega) rfl r w u hu]
    rfl
  | 0 =>
    refine (channel_apply ..).trans ?_
    rw [blend_sheet i x0 x1 x2 x3 _ 0 _ (by omega) rfl r w u hu, blend_sheet i x0 x1 x2 x3 _ 1 _ (by omega) rfl r w u hu,
      blend_sheet i x0 x1 x2 x3 _ 2 _ (by omega) rfl r w u hu, blend_sheet i x0 x1 x2 x3 _ 3 _ (by omega) rfl r w u hu]
    rfl

end Values
end Cert.KernelIdeal.Block

end
-- ==== Proof.KernelHost.lean ====
/- What the kernel's host prefix leaves in the two arrays it prepares, read at an index: the regrouped grid, and the table of
   horizontal weights spread over the depth cells. -/
module

public import proofs.«01_k».proof.Proof.Gen.KernelIdeal.Frame
public import Idealize.ShloMosaic.Lib.StableHlo.ReadAt
public import Idealize.ShloMosaic.Lib.Pointwise
public import Idealize.ShloMosaic.Lib.Routing.OpsOne
public import proofs.«01_k».proof.Proof.Consts

@[expose] public section

set_option maxRecDepth 16384

noncomputable section

namespace Cert.KernelIdeal.Host

open Cert.KernelIdeal Cert.KernelIdeal.Gen Cert.Slice
open Idealize.ShloMosaic Idealize.ShloMosaic.TcCoe Idealize.SL.Sem Idealize.ShloMosaic.StableHlo

/-- A fold that acts at one place of a list without repeats acts once. -/
theorem foldl_once {ι α : Type} (l : List ι) (i : ι) (p : ι → Prop) [DecidablePred p] (hp : ∀ n, p n ↔ n = i) (f : α → ι → α) (x : α) (hl : l.Nodup) (hi : i ∈ l) :
    l.foldl (fun a n => if p n then f a n else a) x = f x i := by
  induction l generalizing x with
  | nil => cases hi
  | cons n l ih =>
    rw [List.nodup_cons] at hl
    rw [List.foldl_cons]
    rcases List.mem_cons.1 hi with h | h
    · subst h
      rw [if_pos ((hp _).2 rfl)]
      have hid : ∀ (l : List ι) (y : α), i ∉ l → l.foldl (fun a n => if p n then f a n else a) y = y := by
        intro l
        induction l with
        | nil => intros; rfl
        | cons m l ih' =>
          intro y hm
          rw [List.foldl_cons, if_neg fun q => hm (by rw [(hp m).1 q]; exact List.mem_cons_self), ih' _ fun q => hm (List.mem_cons_of_mem _ q)]
      exact hid l _ hl.1
    · rw [if_neg fun q => hl.1 (by rw [(hp n).1 q]; exact h), ih _ hl.2 h]

/-- A fold that acts nowhere changes nothing. -/
theorem foldl_never {ι α : Type} (l : List ι) (p : ι → Prop) [DecidablePred p] (hp : ∀ n, ¬ p n) (f : α → ι → α) (x : α) :
    l.foldl (fun a n => if p n then f a n else a) x = x := by
  induction l generalizing x with
  | nil => rfl
  | cons n l ih => rw [List.foldl_cons, if_neg (hp n), ih]

/-- Adding a vector into one column of a table of 512 rows and 16 columns. -/
theorem scatter_column (x : FVec Ideal S512x16 .f32) (idx : IVec S1 32) (upd : FVec Ideal S512 .f32) (k : Fin 16)
    (hidx : (idx (ix1 0)).toInt = (k.val : Int)) (r : Fin 512) (e : Fin 16) :
    Host.scatter scatter_S512x16_S1_S512_0_1_1_0 FloatOps.addf x idx upd (ix2 r e)
      = if e = k then x (ix2 r e) + upd (ix1 r) else x (ix2 r e) := by
  have lands : ∀ w' : Fin 512, scatter_S512x16_S1_S512_0_1_1_0.resultIdx? (ix1 w') idx = some (ix2 r e) ↔ w' = r ∧ e = k := fun w' =>
    Routing.lands_col (A := 512) (N := 16) scatter_S512x16_S1_S512_0_1_1_0 rfl rfl idx k hidx w' r e
  have hsymm : ∀ n : Fin S512.numel, S512.rowMajor.symm n = ix1 (n.cast (Routing.numel1 512)) := fun n => Routing.symm1 n
  rw [Routing.scatter_at]
  simp only [hsymm, lands]
  by_cases h : e = k
  · rw [if_pos h]
    rw [foldl_once (List.finRange S512.numel) (r.cast (Routing.numel1 512).symm) _
      (fun n => ⟨fun q => Fin.ext (by rw [← q.1]; rfl), fun q => ⟨by rw [q]; rfl, h⟩⟩) (fun a n => FloatOps.addf a (upd (ix1 (n.cast (Routing.numel1 512))))) _
      (List.nodup_finRange _) (List.mem_finRange _)]
    rfl
  · rw [if_neg h, foldl_never _ _ (fun n q => h q.2)]

/-- The same where the column is a constant of the program. -/
theorem scatter_column_const (w : BitVec 32) (k : Fin 16) (hw : w.toInt = (k.val : Int)) (x : FVec Ideal S512x16 .f32) (upd : FVec Ideal S512 .f32)
    (r : Fin 512) (e : Fin 16) :
    Host.scatter scatter_S512x16_S1_S512_0_1_1_0 FloatOps.addf x (broadcastInDim S1 ![] bcast_S_S1 (constantI S_ 32 w)) upd (ix2 r e)
      = if e = k then x (ix2 r e) + upd (ix1 r) else x (ix2 r e) :=
  scatter_column x _ upd k hw r e

/-- A vector added into the first column, then one into the last. -/
theorem scatter_ends (x : FVec Ideal S512x16 .f32) (u v : FVec Ideal S512 .f32) (r : Fin 512) (e : Fin 16) :
    Host.scatter scatter_S512x16_S1_S512_0_1_1_0 FloatOps.addf
      (Host.scatter scatter_S512x16_S1_S512_0_1_1_0 FloatOps.addf x (broadcastInDim S1 ![] bcast_S_S1 (constantI S_ 32 0#32)) u)
      (broadcastInDim S1 ![] bcast_S_S1 (constantI S_ 32 15#32)) v (ix2 r e)
      = (x (ix2 r e) + if e.val = 0 then u (ix1 r) else 0) + if e.val + 1 = 16 then v (ix1 r) else 0 := by
  have h0 := scatter_column_const 0#32 0 (by decide) x u r e
  have h1 := scatter_column_const 15#32 15 (by decide)
    (Host.scatter scatter_S512x16_S1_S512_0_1_1_0 FloatOps.addf x (broadcastInDim S1 ![] bcast_S_S1 (constantI S_ 32 0#32)) u) v r e
  rw [h1, h0]
  rcases e with ⟨e, he⟩
  simp only [Fin.ext_iff, Fin.val_zero, show (15 : Fin 16).val = 15 from rfl, show e + 1 = 16 ↔ e = 15 by omega]
  split_ifs <;> simp

variable (m : (ℓ : Loc nD τ sig) → Buf (Elt Ideal) ℓ) (c : Dev nD)

/-- The regrouped grid: row `y`, column `(channel, depth, x)`. -/
theorem grid_apply (b : Fin 4) (y : Fin 16) (q : Fin 1536) :
    V m c main_v40 (ix3 b y q)
      = m ((c : Thread nD τ).loc main_arg0) (ix5 b ⟨q.val / 128, by omega⟩ ⟨q.val / 16 % 8, by omega⟩ y ⟨q.val % 16, by omega⟩) := by
  unfold V
  after_reads_at

/-- The table of horizontal weights spread over the depth cells. -/
theorem table_apply (j : Fin 128) (q : Fin 4096) :
    V m c main_v38 (ix2 j q)
      = (if j.val / 16 = q.val / 512 then 1 else 0) * (cellWeight 16 (pixelPos (q.val % 512)) (j.val % 16) : EReal) := by
  unfold V
  after_reads_at
  refine congrArg₂ (· * ·) ?_ ?_
  · show (((IntOp.cmpi CmpIPredicate.eq (IntOp.addi (BitVec.ofNat 32 (j.val / 16)) 0#32) (BitVec.ofNat 32 (q.val / 512))).toNat : ℝ) : EReal) = _
    have hj := j.isLt
    have hq := q.isLt
    by_cases h : j.val / 16 = q.val / 512
    · rw [if_pos h, h]
      simp [IntOp.cmpi, IntOp.addi]
    · rw [if_neg h]
      have hne : ¬ (BitVec.ofNat 32 (j.val / 16) = BitVec.ofNat 32 (q.val / 512)) := fun e => h (by
        have e' := congrArg BitVec.toNat e
        simp only [BitVec.toNat_ofNat] at e'
        omega)
      simp [IntOp.cmpi, IntOp.addi, hne]
  refine (scatter_ends _ _ _ _ _).trans ?_
  pointwise
  rw [sitofp_nat _ _ (by omega), sitofp_nat _ _ (by omega), lit_half, lit_32nd, lit_15h]
  rw [coe_pixelPos, ← coe_cellWeight]
  simp only [show j.val % 16 + 1 = 16 ↔ j.val % 16 = 15 by omega]
  norm_num

end Cert.KernelIdeal.Host

end
-- ==== Proof.KernelValue.lean ====
/- What the kernel's result array holds after the run, element by element, as a function of the three arguments. -/
module

public import proofs.«01_k».proof.Proof.KernelBlock
public import proofs.«01_k».proof.Proof.KernelHost
public import proofs.«01_k».proof.Proof.Gen.KernelIdeal.Value
public import Idealize.ShloMosaic.Lib.Pipeline.ValueKit.Point

@[expose] public section

set_option maxRecDepth 16384

noncomputable section

namespace Cert.KernelIdeal.Pixels

open Cert.KernelIdeal Cert.KernelIdeal.Gen Cert.Slice
open Idealize.ShloMosaic Idealize.ShloMosaic.TcCoe Idealize.SL.Sem

/-- The grid point of batch element `b` and row tile `s`. -/
def pt (b s : Fin 4) : Fin cfg0.N := ⟨4 * b.val + s.val, by rw [show cfg0.N = 16 from N_0]; omega⟩

/-- A point's batch element. -/
theorem pt_div (b s : Fin 4) : (pt b s).val / 4 = b.val := by show (4 * b.val + s.val) / 4 = b.val; omega

/-- A point's row tile. -/
theorem pt_mod (b s : Fin 4) : (pt b s).val % 4 = s.val := by show (4 * b.val + s.val) % 4 = s.val; omega

/-- A point's coordinates and the block indices of the five windows there. -/
theorem idx : ∀ t : Fin grid0.N,
    (grid0.coords t 0).val = t.val / 4 ∧ (grid0.coords t 1).val = t.val % 4
    ∧ win0_0.index t = ![t.val / 4, 0, 0] ∧ win0_1.index t = ![0, 0] ∧ win0_2.index t = ![t.val / 4, t.val % 4, 0]
    ∧ win0_3.index t = ![t.val / 4, 0, t.val % 4, 0] ∧ win0_4.index t = ![t.val / 4, 0, t.val % 4, 0] := by
  decide +kernel

variable (m : (ℓ : Loc nD τ sig) → Buf (Elt Ideal) ℓ) (c : Dev nD)

/-- The block of the regrouped grid at a point, at an index. -/
theorem grid_block (b s : Fin 4) (y : Fin 16) (q : Fin 1536) :
    iblk m c 0 (pt b s) (ix3 0 y q) = V m c main_v40 (ix3 b y q) := by
  blk_ext [iblk, idx (pt b s), pt_div, pt_mod]

/-- The whole table of weights is every point's block. -/
theorem table_block (b s : Fin 4) (j : Fin 128) (q : Fin 4096) :
    iblk m c 1 (pt b s) (ix2 j q) = V m c main_v38 (ix2 j q) := by
  blk_ext [iblk, idx (pt b s), pt_div, pt_mod]

/-- The guide's block at a point, at an index. -/
theorem guide_block (b s : Fin 4) (r : Fin 128) (w : Fin 512) :
    iblk m c 2 (pt b s) (ix3 0 r w) = m ((c : Thread nD τ).loc main_arg1) (ix3 b ⟨128 * s.val + r.val, by omega⟩ w) := by
  blk_ext [iblk, V_main_arg1, idx (pt b s), pt_div, pt_mod]

/-- The image's block at a point, at an index. -/
theorem image_block (b s : Fin 4) (o : Fin 3) (r : Fin 128) (w : Fin 512) :
    iblk m c 3 (pt b s) (ix4 0 o r w) = m ((c : Thread nD τ).loc main_arg2) (ix4 b o ⟨128 * s.val + r.val, by omega⟩ w) := by
  blk_ext [iblk, V_main_arg2, idx (pt b s), pt_div, pt_mod]

/-- An element of the result array is the body's output at its place in its block. -/
theorem result_block (b s : Fin 4) (o : Fin 3) (r : Fin 128) (w : Fin 512) :
    (dats m 0 c).arrAt 4 cfg0.N (ix4 b o ⟨128 * s.val + r.val, by omega⟩ w)
      = out0_4 (grid0.coords (pt b s)) (iblk m c 0 (pt b s)) (iblk m c 1 (pt b s)) (iblk m c 2 (pt b s)) (iblk m c 3 (pt b s)) (ix4 0 o r w) := by
  have h := congrFun (Value.blocks4 m c (pt b s) (flush0_4 _)) (ix4 0 o r w)
  rw [Value.flushed4, View.read_apply] at h
  refine Eq.trans ?_ h
  refine congrArg ((dats m 0 c).arrAt 4 cfg0.N) ?_
  blk_ext [idx (pt b s), pt_div, pt_mod]

/-- Coefficient `ch` of the kernel's affine map at pixel `(h, w)` of batch element `b`, the guide there being `u`: the grid
    interpolated over the 16 rows, over the 16 columns, and over the 8 depth cells. -/
def coeff (G : Vec Ideal S4x12x8x16x16 .f32) (u : ℝ) (b : Fin 4) (h w : Fin 512) (ch : Fin 12) : EReal :=
  ∑ k : Fin 8, (cellWeight 8 (u * 8) k.val : EReal) * ∑ x : Fin 16,
    (∑ y : Fin 16, (cellWeight 16 (pixelPos h.val) y.val : EReal) * G (ix5 b ch k y x)) * (cellWeight 16 (pixelPos w.val) x.val : EReal)

/-- Of the 128 columns of a channel, those of depth cell `k` count. -/
theorem sum_columns (k : Fin 8) (f : Fin 8 → Fin 16 → EReal) (g : ℕ → EReal) :
    ∑ j : Fin 128, f ⟨j.val / 16, by omega⟩ ⟨j.val % 16, by omega⟩ * ((if j.val / 16 = k.val then 1 else 0) * g (j.val % 16))
      = ∑ x : Fin 16, f k x * g x.val := by
  rw [← Equiv.sum_comp (finProdFinEquiv (m := 8) (n := 16)), Fintype.sum_prod_type]
  rw [Finset.sum_eq_single k]
  · refine Finset.sum_congr rfl fun x _ => ?_
    have hd : (finProdFinEquiv (m := 8) (n := 16) (k, x)).val = x.val + 16 * k.val := rfl
    have h1 : (finProdFinEquiv (m := 8) (n := 16) (k, x)).val / 16 = k.val := by rw [hd]; omega
    have h2 : (finProdFinEquiv (m := 8) (n := 16) (k, x)).val % 16 = x.val := by rw [hd]; omega
    rw [if_pos h1, one_mul]
    simp only [h1, h2, Fin.eta]
  · intro z _ hz
    refine Finset.sum_eq_zero fun x _ => ?_
    have hd : (finProdFinEquiv (m := 8) (n := 16) (z, x)).val = x.val + 16 * z.val := rfl
    have h1 : (finProdFinEquiv (m := 8) (n := 16) (z, x)).val / 16 ≠ k.val := by
      rw [hd]; intro e; exact hz (Fin.ext (by omega))
    rw [if_neg h1, zero_mul, mul_zero]
  · exact fun hk => absurd (Finset.mem_univ k) hk

/-- The body's coefficient, at a point's blocks. -/
theorem coeff_eq (b s : Fin 4) (r : Fin 128) (w : Fin 512) (u : ℝ) (ch : Nat) (hch : ch < 12) :
    Block.coeff (grid0.coords (pt b s)) (iblk m c 0 (pt b s)) (iblk m c 1 (pt b s)) u r w ch hch
      = coeff (m ((c : Thread nD τ).loc main_arg0)) u b ⟨128 * s.val + r.val, by omega⟩ w ⟨ch, hch⟩ := by
  have hrow : Block.rowPos (grid0.coords (pt b s)) r = pixelPos (128 * s.val + r.val) := by
    unfold Block.rowPos
    rw [(idx (pt b s)).2.1, pt_mod, Nat.add_comm, Nat.mul_comm]
  unfold Block.coeff coeff
  rw [hrow]
  refine Finset.sum_congr rfl fun k _ => congrArg (_ * ·) ?_
  rw [← sum_columns k (fun z x => ∑ y : Fin 16, (cellWeight 16 (pixelPos (128 * s.val + r.val)) y.val : EReal) * m ((c : Thread nD τ).loc main_arg0) (ix5 b ⟨ch, hch⟩ z y x)) (fun x => (cellWeight 16 (pixelPos w.val) x : EReal))]
  refine Finset.sum_congr rfl fun j _ => ?_
  have hk := k.isLt
  have hw := w.isLt
  have hj := j.isLt
  rw [table_block, Host.table_apply]
  dsimp only
  rw [show (512 * k.val + w.val) / 512 = k.val by omega, show (512 * k.val + w.val) % 512 = w.val by omega]
  refine congrArg (· * _) (Finset.sum_congr rfl fun y _ => congrArg (_ * ·) ?_)
  rw [grid_block, Host.grid_apply]
  congr 2 <;> apply Fin.ext <;> dsimp only <;> omega

/-- The kernel's result at a pixel, as a function of the three arguments: the guide there being the real `u`. -/
def value (G : Vec Ideal S4x12x8x16x16 .f32) (I : Vec Ideal S4x3x512x512 .f32) (u : ℝ) (b : Fin 4) (o : Fin 3) (h w : Fin 512) : EReal :=
  ((coeff G u b h w ⟨4 * o.val, by omega⟩ * I (ix4 b 0 h w) + coeff G u b h w ⟨4 * o.val + 1, by omega⟩ * I (ix4 b 1 h w))
    + coeff G u b h w ⟨4 * o.val + 2, by omega⟩ * I (ix4 b 2 h w)) + coeff G u b h w ⟨4 * o.val + 3, by omega⟩

/-- The result array after the run, at an index where the guide is a real. -/
theorem result_apply (b : Fin 4) (o : Fin 3) (h w : Fin 512) (u : ℝ) (hu : m ((c : Thread nD τ).loc main_arg1) (ix3 b h w) = (u : EReal)) :
    (dats m 0 c).arrAt 4 cfg0.N (ix4 b o h w)
      = value (m ((c : Thread nD τ).loc main_arg0)) (m ((c : Thread nD τ).loc main_arg2)) u b o h w := by
  obtain ⟨s, r, rfl⟩ : ∃ (s : Fin 4) (r : Fin 128), h = ⟨128 * s.val + r.val, by omega⟩ :=
    ⟨⟨h.val / 128, by omega⟩, ⟨h.val % 128, by omega⟩, Fin.ext (by dsimp only; omega)⟩
  rw [result_block, Block.out_apply _ _ _ _ _ o r w u ((guide_block m c b s r w).trans hu)]
  unfold Block.pixel value
  rw [coeff_eq, coeff_eq, coeff_eq, coeff_eq, image_block, image_block, image_block]

end Cert.KernelIdeal.Pixels

end
-- ==== Proof.RefCorner.lean ====
/- The reference's coefficients as a sum of eight corner terms, each the product of three axis weights and one gathered sample. -/
module

public import proofs.«01_k».proof.Proof.Gen.ReferenceIdeal.Read
public import Idealize.ShloMosaic.Lib.Pointwise

@[expose] public section

set_option maxRecDepth 16384

noncomputable section

namespace Cert.ReferenceIdeal.Corner

open Cert.ReferenceIdeal Cert.ReferenceIdeal.Gen Cert.ReferenceIdeal.Read
open Idealize.ShloMosaic Idealize.ShloMosaic.TcCoe Idealize.SL.Sem

variable {F : FTy → Type} [FloatOps F]

/-- A float constant along a spatial axis. -/
def lineConst (d : BitVec 32) : FVec F S512 .f32 := broadcastInDim S512 ![] bcast_S_S512 (constant (F := F) S_ .f32 d)

/-- A float constant over the guide's shape. -/
def planeConst (d : BitVec 32) : FVec F S4x512x512 .f32 := broadcastInDim S4x512x512 ![] bcast_S_S4x512x512 (constant (F := F) S_ .f32 d)

/-- The positions of the pixels along a spatial axis, in cells: `(i + 1/2) * 16 / 512`. -/
def linePos : FVec F S512 .f32 := Host.divf (mulf (addf (sitofp .f32 (iotaInDim S512 32 0)) (lineConst 0x3F000000#32)) (lineConst 0x41800000#32)) (lineConst 0x44000000#32)

/-- The neighbouring cell `d` of each pixel along a spatial axis. -/
def lineCell (d : BitVec 32) : FVec F S512 .f32 := addf (Host.floor (subf linePos (lineConst 0x3F000000#32))) (lineConst d)

/-- Its weight. -/
def lineWeight (d : BitVec 32) : FVec F S512 .f32 :=
  maximumf (subf (lineConst 0x3F800000#32) (Host.absf (subf (addf (lineCell d) (lineConst 0x3F000000#32)) linePos))) (lineConst 0x00000000#32)

/-- Its index, clipped into the grid. -/
def lineTap (d : BitVec 32) : IVec S512 32 :=
  fptosi 32 (minimumf (broadcastInDim S512 ![] bcast_S_S512 (sitofp (F := F) .f32 (constantI S_ 32 15#32)))
    (maximumf (broadcastInDim S512 ![] bcast_S_S512 (sitofp (F := F) .f32 (constantI S_ 32 0#32))) (lineCell d)))

/-- The guide, in depth cells. -/
def depthPos (x1 : Vec F S4x512x512 .f32) : FVec F S4x512x512 .f32 := mulf x1 (planeConst 0x41000000#32)

/-- The neighbouring depth cell `d` of each pixel. -/
def depthCell (x1 : Vec F S4x512x512 .f32) (d : BitVec 32) : FVec F S4x512x512 .f32 := addf (Host.floor (subf (depthPos x1) (planeConst 0x3F000000#32))) (planeConst d)

/-- Its weight. -/
def depthWeight (x1 : Vec F S4x512x512 .f32) (d : BitVec 32) : FVec F S4x512x512 .f32 :=
  maximumf (subf (planeConst 0x3F800000#32) (Host.absf (subf (addf (depthCell x1 d) (planeConst 0x3F000000#32)) (depthPos x1)))) (planeConst 0x00000000#32)

/-- Its index, clipped into the grid. -/
def depthTap (x1 : Vec F S4x512x512 .f32) (d : BitVec 32) : IVec S4x512x512 32 :=
  fptosi 32 (minimumf (broadcastInDim S4x512x512 ![] bcast_S_S4x512x512 (sitofp (F := F) .f32 (constantI S_ 32 7#32)))
    (maximumf (broadcastInDim S4x512x512 ![] bcast_S_S4x512x512 (sitofp (F := F) .f32 (constantI S_ 32 0#32))) (depthCell x1 d)))

/-- The batch numbers. -/
def batchWord : IVec S4x1x1 32 := broadcastInDim S4x1x1 ![0] bcast_S4_S4x1x1_0 (iotaInDim S4 32 0)

/-- The start indices of a corner's samples: batch, depth, row, column, each with the negative ones wrapped. -/
def starts (tz : IVec S4x512x512 32) (ty tx : IVec S512 32) : IVec S4x512x512x4 32 :=
  concatenate S4x512x512x4 3 [
    ⟨S4x512x512x1, broadcastInDim S4x512x512x1 ![0, 1, 2] bcast_S4x512x512_S4x512x512x1_0_1_2 (broadcastInDim S4x512x512 ![0, 1, 2] bcast_S4x1x1_S4x512x512_0_1_2
      (select (cmpi .slt batchWord (broadcastInDim S4x1x1 ![] bcast_S_S4x1x1 (constantI S_ 32 0#32))) (addi batchWord (broadcastInDim S4x1x1 ![] bcast_S_S4x1x1 (constantI S_ 32 4#32))) batchWord))⟩,
    ⟨S4x512x512x1, broadcastInDim S4x512x512x1 ![0, 1, 2] bcast_S4x512x512_S4x512x512x1_0_1_2
      (select (cmpi .slt tz (broadcastInDim S4x512x512 ![] bcast_S_S4x512x512 (constantI S_ 32 0#32))) (addi tz (broadcastInDim S4x512x512 ![] bcast_S_S4x512x512 (constantI S_ 32 8#32))) tz)⟩,
    ⟨S4x512x512x1, broadcastInDim S4x512x512x1 ![0, 1, 2] bcast_S4x512x512_S4x512x512x1_0_1_2 (broadcastInDim S4x512x512 ![0, 1, 2] bcast_S1x512x1_S4x512x512_0_1_2
      (select (cmpi .slt (broadcastInDim S1x512x1 ![1] bcast_S512_S1x512x1_1 ty) (broadcastInDim S1x512x1 ![] bcast_S_S1x512x1 (constantI S_ 32 0#32)))
        (addi (broadcastInDim S1x512x1 ![1] bcast_S512_S1x512x1_1 ty) (broadcastInDim S1x512x1 ![] bcast_S_S1x512x1 (constantI S_ 32 16#32))) (broadcastInDim S1x512x1 ![1] bcast_S512_S1x512x1_1 ty)))⟩,
    ⟨S4x512x512x1, broadcastInDim S4x512x512x1 ![0, 1, 2] bcast_S4x512x512_S4x512x512x1_0_1_2 (broadcastInDim S4x512x512 ![0, 1, 2] bcast_S1x1x512_S4x512x512_0_1_2
      (select (cmpi .slt (broadcastInDim S1x1x512 ![2] bcast_S512_S1x1x512_2 tx) (broadcastInDim S1x1x512 ![] bcast_S_S1x1x512 (constantI S_ 32 0#32)))
        (addi (broadcastInDim S1x1x512 ![2] bcast_S512_S1x1x512_2 tx) (broadcastInDim S1x1x512 ![] bcast_S_S1x1x512 (constantI S_ 32 16#32))) (broadcastInDim S1x1x512 ![2] bcast_S512_S1x1x512_2 tx)))⟩]
    concatenates_S4x512x512x1_S4x512x512x1_S4x512x512x1_S4x512x512x1_S4x512x512x4_d3

/-- The grid with its channels last. -/
def cells (x0 : Vec F S4x12x8x16x16 .f32) : FVec F S4x8x16x16x12 .f32 := transpose S4x8x16x16x12 [0, 2, 3, 4, 1] x0 transposes_S4x12x8x16x16_S4x8x16x16x12_0_2_3_4_1

/-- The samples of one corner. -/
def samples (x0 : Vec F S4x12x8x16x16 .f32) (tz : IVec S4x512x512 32) (ty tx : IVec S512 32) : FVec F S4x512x512x12 .f32 :=
  Host.gather gather_S4x8x16x16x12_S4x512x512x4_S4x512x512x12_3_0123_n_n_0123_3_111112 (cells x0) (starts tz ty tx)

/-- The product of a corner's three weights, over the channels. -/
def weights (wz : FVec F S4x512x512 .f32) (wy wx : FVec F S512 .f32) : FVec F S4x512x512x12 .f32 :=
  broadcastInDim S4x512x512x12 ![0, 1, 2, 3] bcast_S4x512x512x1_S4x512x512x12_0_1_2_3 (broadcastInDim S4x512x512x1 ![0, 1, 2] bcast_S4x512x512_S4x512x512x1_0_1_2
    (mulf (mulf wz (broadcastInDim S4x512x512 ![0, 1, 2] bcast_S1x512x1_S4x512x512_0_1_2 (broadcastInDim S1x512x1 ![1] bcast_S512_S1x512x1_1 wy)))
      (broadcastInDim S4x512x512 ![0, 1, 2] bcast_S1x1x512_S4x512x512_0_1_2 (broadcastInDim S1x1x512 ![2] bcast_S512_S1x1x512_2 wx))))

/-- One corner's contribution to the coefficients. -/
def corner (x0 : Vec F S4x12x8x16x16 .f32) (x1 : Vec F S4x512x512 .f32) (dz dy dx : BitVec 32) : FVec F S4x512x512x12 .f32 :=
  mulf (weights (depthWeight x1 dz) (lineWeight dy) (lineWeight dx)) (samples x0 (depthTap x1 dz) (lineTap (F := F) dy) (lineTap (F := F) dx))

/-- The coefficients are the eight corners, added to zero one after the other. -/
theorem coeff_eq (x0 : Vec F S4x12x8x16x16 .f32) (x1 : Vec F S4x512x512 .f32) :
    val_main_v524 (F := F) x0 x1
      = addf (addf (addf (addf (addf (addf (addf (addf (broadcastInDim S4x512x512x12 ![] bcast_S_S4x512x512x12 (constant (F := F) S_ .f32 0x00000000#32))
          (corner x0 x1 0x00000000#32 0x00000000#32 0x00000000#32)) (corner x0 x1 0x00000000#32 0x00000000#32 0x3F800000#32))
          (corner x0 x1 0x00000000#32 0x3F800000#32 0x00000000#32)) (corner x0 x1 0x00000000#32 0x3F800000#32 0x3F800000#32))
          (corner x0 x1 0x3F800000#32 0x00000000#32 0x00000000#32)) (corner x0 x1 0x3F800000#32 0x00000000#32 0x3F800000#32))
          (corner x0 x1 0x3F800000#32 0x3F800000#32 0x00000000#32)) (corner x0 x1 0x3F800000#32 0x3F800000#32 0x3F800000#32) := rfl

end Cert.ReferenceIdeal.Corner

end
-- ==== Proof.RefValue.lean ====
/- What the reference's result holds at an index, as a function of the three arguments. -/
module

public import proofs.«01_k».proof.Proof.RefCorner
public import proofs.«01_k».proof.Proof.Consts

@[expose] public section

set_option maxRecDepth 16384

noncomputable section

namespace Cert.ReferenceIdeal.Corner

open Cert.ReferenceIdeal Cert.ReferenceIdeal.Gen Cert.ReferenceIdeal.Read Cert.Slice
open Idealize.ShloMosaic Idealize.ShloMosaic.TcCoe Idealize.SL.Sem

/-- The dimension numbers of the reference's gathers: the start index is the whole place but for the channel. -/
abbrev dims := gather_S4x8x16x16x12_S4x512x512x4_S4x512x512x12_3_0123_n_n_0123_3_111112

/-- The place of the start indices that component `k` of a sample's start index is read from. -/
theorem siIdx_eq (b : Fin 4) (h w : Fin 512) (ch : Fin 12) (k : Fin 4) : GatherDims.siIdx dims (ix4 b h w ch) k = ix4 b h w k :=
  funext fun
    | 0 => rfl
    | 1 => rfl
    | 2 => rfl
    | 3 => rfl

/-- A gathered sample: the cell its start index names. -/
theorem gather_apply {α : Type} (x : S4x8x16x16x12.Idx → α) (s : IVec S4x512x512x4 32) (b : Fin 4) (h w : Fin 512) (ch : Fin 12)
    (i0 : Fin 4) (i1 : Fin 8) (i2 i3 : Fin 16) (h0 : s (ix4 b h w 0) = BitVec.ofNat 32 i0.val) (h1 : s (ix4 b h w 1) = BitVec.ofNat 32 i1.val)
    (h2 : s (ix4 b h w 2) = BitVec.ofNat 32 i2.val) (h3 : s (ix4 b h w 3) = BitVec.ofNat 32 i3.val) :
    Host.gather dims x s (ix4 b h w ch) = x (ix5 i0 i1 i2 i3 ch) := by
  unfold Host.gather
  have hs : ∀ (a : Fin 4) (n i : Nat), s (ix4 b h w a) = BitVec.ofNat 32 i → i ≤ n → n < 2 ^ 31 →
      min (s (GatherDims.siIdx dims (ix4 b h w ch) a)).toInt.toNat n = i := fun a n i e hi hn => by
    rw [siIdx_eq, e, StableHlo.Predicate.toInt_ofNat_small _ (by omega)]
    show min i n = i
    omega
  refine congrArg x (funext fun
    | 0 => Fin.ext ?_
    | 1 => Fin.ext ?_
    | 2 => Fin.ext ?_
    | 3 => Fin.ext ?_
    | 4 => Fin.ext ?_)
  · exact hs 0 3 i0.val h0 (by omega) (by omega)
  · exact hs 1 7 i1.val h1 (by omega) (by omega)
  · exact hs 2 15 i2.val h2 (by omega) (by omega)
  · exact hs 3 15 i3.val h3 (by omega) (by omega)
  · show 0 + 0 + ch.val = ch.val
    omega

/-- A neighbour's weight as the reference computes it. -/
theorem coe_tapWeight (p : ℝ) (d : ℕ) :
    max (1 - FloatOps.absf (F := Ideal) (φ := .f32) (Ideal.liftRound Int.floor ((p : EReal) - ((1 / 2 : ℝ) : EReal)) + ((d : ℝ) : EReal) + ((1 / 2 : ℝ) : EReal) - (p : EReal))) 0
      = ((tapWeight p d : ℝ) : EReal) := by
  rw [Ideal.absf_def, ← EReal.coe_sub, Ideal.liftRound_coe, ← EReal.coe_add, ← EReal.coe_add, ← EReal.coe_sub, ← EReal.coe_zero, ← EReal.coe_one, coe_hat]
  rfl

/-- A neighbour's index, clipped below `n`, as the reference computes it. -/
theorem coe_tap (n : ℕ) (hn : 0 < n) (hn' : n ≤ 16) (p : ℝ) (d : ℕ) :
    Ideal.fptosi 32 (min (((n - 1 : ℤ) : ℝ) : EReal) (max (((0 : ℤ) : ℝ) : EReal) (Ideal.liftRound Int.floor ((p : EReal) - ((1 / 2 : ℝ) : EReal)) + ((d : ℝ) : EReal))))
      = BitVec.ofNat 32 (tap n p d) := by
  rw [← EReal.coe_sub, Ideal.liftRound_coe, ← EReal.coe_add, coe_max, coe_min]
  have e : min (((n - 1 : ℤ) : ℝ)) (max (((0 : ℤ) : ℝ)) ((⌊p - 1 / 2⌋ : ℝ) + (d : ℝ))) = ((min ((n : ℤ) - 1) (max 0 (⌊p - 1 / 2⌋ + d)) : ℤ) : ℝ) := by
    push_cast
    rfl
  rw [e]
  unfold Ideal.fptosi
  rw [Ideal.toIntClamped_coe, Int.floor_intCast, Int.ceil_intCast, ite_self]
  unfold tap
  generalize ht : min ((n : ℤ) - 1) (max 0 (⌊p - 1 / 2⌋ + d)) = t
  have h0 : 0 ≤ t := by omega
  have h1 : t < 16 := by omega
  have e2 : max (-((2 ^ (32 - 1) : Nat) : ℤ)) (min (((2 ^ (32 - 1) : Nat) : ℤ) - 1) t) = t := by omega
  rw [e2]
  lift t to ℕ using h0
  rfl

/-- An index that is not negative is left as it is. -/
theorem select_slt (n : ℕ) (hn : n < 2 ^ 31) (y : BitVec 32) :
    Scalar.select (IntOp.cmpi CmpIPredicate.slt (BitVec.ofNat 32 n) 0#32) y (BitVec.ofNat 32 n) = BitVec.ofNat 32 n := by
  have h : ¬ IntOp.cmpi CmpIPredicate.slt (BitVec.ofNat 32 n) 0#32 = 1#1 := fun h =>
    absurd ((StableHlo.Predicate.slt_ofNat_iff n 0 hn (by omega)).mp h) (by omega)
  exact if_neg h

/-- The position of a pixel along a spatial axis. -/
theorem linePos_apply (w : Fin 512) : linePos (F := Ideal) (ix1 w) = ((pixelPos w.val : ℝ) : EReal) := by
  unfold linePos lineConst
  pointwise
  rw [sitofp_nat .f32 w.val (by omega), lit_half, lit_sixteen, lit_512, Ideal.div_coe (by norm_num), ← EReal.coe_add, ← EReal.coe_mul, ← EReal.coe_mul]
  congr 1
  unfold pixelPos
  ring

/-- The weight of neighbour `d` along a spatial axis. -/
theorem lineWeight_apply (w : Fin 512) (d : BitVec 32) (k : ℕ) (hd : Ideal.ofBits FTy.f32 d = ((k : ℝ) : EReal)) :
    lineWeight (F := Ideal) d (ix1 w) = ((tapWeight (pixelPos w.val) k : ℝ) : EReal) := by
  unfold lineWeight lineCell lineConst
  pointwise
  rw [linePos_apply, lit_half, hd]
  exact coe_tapWeight _ k

/-- The index of neighbour `d` along a spatial axis. -/
theorem lineTap_apply (w : Fin 512) (d : BitVec 32) (k : ℕ) (hd : Ideal.ofBits FTy.f32 d = ((k : ℝ) : EReal)) :
    lineTap (F := Ideal) d (ix1 w) = BitVec.ofNat 32 (tap 16 (pixelPos w.val) k) := by
  unfold lineTap lineCell lineConst
  pointwise
  rw [linePos_apply, lit_half, hd]
  exact coe_tap 16 (by omega) (by omega) _ k

variable (x0 : Vec Ideal S4x12x8x16x16 .f32) (x1 : Vec Ideal S4x512x512 .f32) (x2 : Vec Ideal S4x3x512x512 .f32)

/-- The position of a pixel in depth. -/
theorem depthPos_apply (b : Fin 4) (h w : Fin 512) (u : ℝ) (hu : x1 (ix3 b h w) = (u : EReal)) :
    depthPos (F := Ideal) x1 (ix3 b h w) = ((u * 8 : ℝ) : EReal) := by
  unfold depthPos planeConst
  pointwise
  rw [hu, lit_eight, ← EReal.coe_mul]

/-- The weight of neighbour `d` in depth. -/
theorem depthWeight_apply (b : Fin 4) (h w : Fin 512) (u : ℝ) (hu : x1 (ix3 b h w) = (u : EReal)) (d : BitVec 32) (k : ℕ)
    (hd : Ideal.ofBits FTy.f32 d = ((k : ℝ) : EReal)) :
    depthWeight (F := Ideal) x1 d (ix3 b h w) = ((tapWeight (u * 8) k : ℝ) : EReal) := by
  unfold depthWeight depthCell planeConst
  pointwise
  rw [depthPos_apply x1 b h w u hu, lit_half, hd]
  exact coe_tapWeight _ k

/-- The index of neighbour `d` in depth. -/
theorem depthTap_apply (b : Fin 4) (h w : Fin 512) (u : ℝ) (hu : x1 (ix3 b h w) = (u : EReal)) (d : BitVec 32) (k : ℕ)
    (hd : Ideal.ofBits FTy.f32 d = ((k : ℝ) : EReal)) :
    depthTap (F := Ideal) x1 d (ix3 b h w) = BitVec.ofNat 32 (tap 8 (u * 8) k) := by
  unfold depthTap depthCell planeConst
  pointwise
  rw [depthPos_apply x1 b h w u hu, lit_half, hd]
  exact coe_tap 8 (by omega) (by omega) _ k

/-- The samples of a corner whose cell is known. -/
theorem samples_apply (tz : IVec S4x512x512 32) (ty tx : IVec S512 32) (b : Fin 4) (h w : Fin 512) (ch : Fin 12) (z : Fin 8) (y x : Fin 16)
    (hz : tz (ix3 b h w) = BitVec.ofNat 32 z.val) (hy : ty (ix1 h) = BitVec.ofNat 32 y.val) (hx : tx (ix1 w) = BitVec.ofNat 32 x.val) :
    samples (F := Ideal) x0 tz ty tx (ix4 b h w ch) = x0 (ix5 b ch z y x) := by
  unfold samples
  refine (gather_apply _ _ b h w ch b z y x ?_ ?_ ?_ ?_).trans ?_
  · unfold starts batchWord
    pointwise
    exact select_slt b.val (by omega) _
  · unfold starts batchWord
    pointwise
    rw [hz]
    exact select_slt z.val (by omega) _
  · unfold starts batchWord
    pointwise
    rw [hy]
    exact select_slt y.val (by omega) _
  · unfold starts batchWord
    pointwise
    rw [hx]
    exact select_slt x.val (by omega) _
  · unfold cells
    pointwise

/-- One corner's contribution at a pixel of known guide `u`. -/
theorem corner_apply (b : Fin 4) (h w : Fin 512) (ch : Fin 12) (u : ℝ) (hu : x1 (ix3 b h w) = (u : EReal)) (dz dy dx : BitVec 32) (kz ky kx : ℕ)
    (hz : Ideal.ofBits FTy.f32 dz = ((kz : ℝ) : EReal)) (hy : Ideal.ofBits FTy.f32 dy = ((ky : ℝ) : EReal)) (hx : Ideal.ofBits FTy.f32 dx = ((kx : ℝ) : EReal)) :
    corner x0 x1 dz dy dx (ix4 b h w ch)
      = (tapWeight (u * 8) kz : EReal) * (tapWeight (pixelPos h.val) ky : EReal) * (tapWeight (pixelPos w.val) kx : EReal)
        * x0 (ix5 b ch ⟨tap 8 (u * 8) kz, tap_lt 8 (by omega) _ _⟩ ⟨tap 16 (pixelPos h.val) ky, tap_lt 16 (by omega) _ _⟩ ⟨tap 16 (pixelPos w.val) kx, tap_lt 16 (by omega) _ _⟩) := by
  unfold corner weights
  pointwise
  rw [depthWeight_apply x1 b h w u hu dz kz hz, lineWeight_apply h dy ky hy, lineWeight_apply w dx kx hx,
    samples_apply x0 _ _ _ b h w ch ⟨_, tap_lt 8 (by omega) _ _⟩ ⟨_, tap_lt 16 (by omega) _ _⟩ ⟨_, tap_lt 16 (by omega) _ _⟩ (depthTap_apply x1 b h w u hu dz kz hz) (lineTap_apply h dy ky hy) (lineTap_apply w dx kx hx)]

/-- A corner's contribution, as a function of the pixel, the channel and the corner. -/
def cornerValue (u : ℝ) (b : Fin 4) (h w : Fin 512) (ch : Fin 12) (kz ky kx : ℕ) : EReal :=
  (tapWeight (u * 8) kz : EReal) * (tapWeight (pixelPos h.val) ky : EReal) * (tapWeight (pixelPos w.val) kx : EReal)
    * x0 (ix5 b ch ⟨tap 8 (u * 8) kz, tap_lt 8 (by omega) _ _⟩ ⟨tap 16 (pixelPos h.val) ky, tap_lt 16 (by omega) _ _⟩ ⟨tap 16 (pixelPos w.val) kx, tap_lt 16 (by omega) _ _⟩)

/-- A coefficient at a pixel: the eight corners. -/
theorem coeff_apply (b : Fin 4) (h w : Fin 512) (ch : Fin 12) (u : ℝ) (hu : x1 (ix3 b h w) = (u : EReal)) :
    val_main_v524 (F := Ideal) x0 x1 (ix4 b h w ch)
      = cornerValue x0 u b h w ch 0 0 0 + cornerValue x0 u b h w ch 0 0 1 + cornerValue x0 u b h w ch 0 1 0 + cornerValue x0 u b h w ch 0 1 1
        + cornerValue x0 u b h w ch 1 0 0 + cornerValue x0 u b h w ch 1 0 1 + cornerValue x0 u b h w ch 1 1 0 + cornerValue x0 u b h w ch 1 1 1 := by
  have h0 : Ideal.ofBits FTy.f32 0x00000000#32 = (((0 : ℕ) : ℝ) : EReal) := by rw [lit_zero]; norm_num
  have h1 : Ideal.ofBits FTy.f32 0x3F800000#32 = (((1 : ℕ) : ℝ) : EReal) := by rw [lit_one]; norm_num
  rw [coeff_eq]
  pointwise
  rw [corner_apply x0 x1 b h w ch u hu _ _ _ 0 0 0 h0 h0 h0, corner_apply x0 x1 b h w ch u hu _ _ _ 0 0 1 h0 h0 h1,
    corner_apply x0 x1 b h w ch u hu _ _ _ 0 1 0 h0 h1 h0, corner_apply x0 x1 b h w ch u hu _ _ _ 0 1 1 h0 h1 h1,
    corner_apply x0 x1 b h w ch u hu _ _ _ 1 0 0 h1 h0 h0, corner_apply x0 x1 b h w ch u hu _ _ _ 1 0 1 h1 h0 h1,
    corner_apply x0 x1 b h w ch u hu _ _ _ 1 1 0 h1 h1 h0, corner_apply x0 x1 b h w ch u hu _ _ _ 1 1 1 h1 h1 h1]
  rfl

/-- The reference's result at a pixel: the affine transform of the image by the coefficients. -/
theorem out_apply (b : Fin 4) (o : Fin 3) (h w : Fin 512) :
    val_main_v532 (F := Ideal) x0 x1 x2 (ix4 b o h w)
      = (∑ x : Fin 3, val_main_v524 (F := Ideal) x0 x1 (ix4 b h w ⟨o.val * 4 + x.val, by omega⟩) * x2 (ix4 b x h w))
        + val_main_v524 (F := Ideal) x0 x1 (ix4 b h w ⟨o.val * 4 + 3, by omega⟩) := by
  unfold val_main_v532 val_main_v531 val_main_v530 val_main_v529 val_main_v528 val_main_v527 val_main_v526 val_main_v525
  generalize val_main_v524 (F := Ideal) x0 x1 = C
  pointwise

end Cert.ReferenceIdeal.Corner

end
-- ==== Proof.Equation.lean ====
/- The kernel's value at a pixel is the reference's. -/
module

public import proofs.«01_k».proof.Proof.KernelValue
public import proofs.«01_k».proof.Proof.RefValue
public import proofs.«01_k».proof.Pre_guide_in_unit

@[expose] public section

set_option maxRecDepth 16384

noncomputable section

namespace Cert.Slice

open Idealize.ShloMosaic Idealize.ShloMosaic.TcCoe Idealize.SL.Sem

/-- The weighted sum over all the cells of an axis keeps the two neighbours of the position. -/
theorem sum_cells (n : ℕ) (hn : 1 < n) (p : ℝ) (hp : 0 ≤ p) (hpn : p ≤ n) (G : Fin n → EReal) :
    ∑ c : Fin n, (cellWeight n p c.val : EReal) * G c
      = (tapWeight p 0 : EReal) * G ⟨tap n p 0, tap_lt n (by omega) p 0⟩ + (tapWeight p 1 : EReal) * G ⟨tap n p 1, tap_lt n (by omega) p 1⟩ := by
  have h := sum_cellWeight n hn p hp hpn (fun i => if hi : i < n then G ⟨i, hi⟩ else 0)
  simp only [Fin.is_lt, Fin.eta, tap_lt n (by omega : 0 < n), dif_pos] at h
  exact h

/-- Three weighted sums, one inside the other, are the eight corners added up. -/
theorem three_axes (g py px : ℝ) (hg : 0 ≤ g) (hg8 : g ≤ 8) (hy : 0 ≤ py) (hy16 : py ≤ (16 : ℕ)) (hx : 0 ≤ px) (hx16 : px ≤ (16 : ℕ))
    (G : Fin 8 → Fin 16 → Fin 16 → EReal) (C : ℕ → ℕ → ℕ → EReal)
    (hC : ∀ kz ky kx, C kz ky kx = (tapWeight g kz : EReal) * (tapWeight py ky : EReal) * (tapWeight px kx : EReal)
      * G ⟨tap 8 g kz, tap_lt 8 (by omega) _ _⟩ ⟨tap 16 py ky, tap_lt 16 (by omega) _ _⟩ ⟨tap 16 px kx, tap_lt 16 (by omega) _ _⟩) :
    ∑ k : Fin 8, (cellWeight 8 g k.val : EReal) * ∑ x : Fin 16, (∑ y : Fin 16, (cellWeight 16 py y.val : EReal) * G k y x) * (cellWeight 16 px x.val : EReal)
      = C 0 0 0 + C 0 0 1 + C 0 1 0 + C 0 1 1 + C 1 0 0 + C 1 0 1 + C 1 1 0 + C 1 1 1 := by
  have e : ∀ k : Fin 8, ∑ x : Fin 16, (∑ y : Fin 16, (cellWeight 16 py y.val : EReal) * G k y x) * (cellWeight 16 px x.val : EReal)
      = ∑ x : Fin 16, (cellWeight 16 px x.val : EReal) * ∑ y : Fin 16, (cellWeight 16 py y.val : EReal) * G k y x := fun k =>
    Finset.sum_congr rfl fun x _ => mul_comm _ _
  simp only [e]
  rw [sum_cells 8 (by omega) g hg (by exact_mod_cast hg8), sum_cells 16 (by omega) px hx hx16, sum_cells 16 (by omega) px hx hx16,
    sum_cells 16 (by omega) py hy hy16, sum_cells 16 (by omega) py hy hy16, sum_cells 16 (by omega) py hy hy16, sum_cells 16 (by omega) py hy hy16]
  simp only [hC, coe_mul_add (tapWeight_nonneg _ _)]
  simp only [← mul_assoc]
  have c : ∀ d d' : ℕ, ∀ z : ℝ, (z : EReal) * (tapWeight px d : EReal) * (tapWeight py d' : EReal) = (z : EReal) * (tapWeight py d' : EReal) * (tapWeight px d : EReal) :=
    fun d d' z => mul_right_comm _ _ _
  simp only [c]
  abel

end Cert.Slice

namespace Cert.Equation

open Cert.Slice
open Idealize.ShloMosaic Idealize.ShloMosaic.TcCoe Idealize.SL.Sem

variable (G : Vec Ideal Cert.ReferenceIdeal.S4x12x8x16x16 .f32) (x1 : Vec Ideal Cert.ReferenceIdeal.S4x512x512 .f32) (I : Vec Ideal Cert.ReferenceIdeal.S4x3x512x512 .f32)

/-- A coefficient of the kernel is the reference's, where the guide lies in the unit interval. -/
theorem coeff_eq (b : Fin 4) (h w : Fin 512) (ch : Fin 12) (u : ℝ) (hu : x1 (ix3 b h w) = (u : EReal)) (h0 : 0 ≤ u) (h1 : u ≤ 1) :
    Cert.KernelIdeal.Pixels.coeff G u b h w ch = Cert.ReferenceIdeal.Read.val_main_v524 (F := Ideal) G x1 (ix4 b h w ch) := by
  rw [Cert.ReferenceIdeal.Corner.coeff_apply G x1 b h w ch u hu]
  exact three_axes (u * 8) (pixelPos h.val) (pixelPos w.val) (by linarith) (by linarith) (pixelPos_nonneg _) (pixelPos_le _ h.isLt)
    (pixelPos_nonneg _) (pixelPos_le _ w.isLt) (fun z y x => G (ix5 b ch z y x)) (Cert.ReferenceIdeal.Corner.cornerValue G u b h w ch)
    (fun _ _ _ => rfl)

/-- The kernel's value at a pixel is the reference's, where the guide lies in the unit interval. -/
theorem value_eq (b : Fin 4) (o : Fin 3) (h w : Fin 512) (u : ℝ) (hu : x1 (ix3 b h w) = (u : EReal)) (h0 : 0 ≤ u) (h1 : u ≤ 1) :
    Cert.KernelIdeal.Pixels.value G I u b o h w = Cert.ReferenceIdeal.Read.val_main_v532 (F := Ideal) G x1 I (ix4 b o h w) := by
  have c : ∀ k : ℕ, ∀ hk : k < 4, Cert.KernelIdeal.Pixels.coeff G u b h w ⟨4 * o.val + k, by omega⟩
      = Cert.ReferenceIdeal.Read.val_main_v524 (F := Ideal) G x1 (ix4 b h w ⟨o.val * 4 + k, by omega⟩) := fun k hk => by
    rw [← coeff_eq G x1 b h w _ u hu h0 h1]
    exact congrArg _ (Fin.ext (by show 4 * o.val + k = o.val * 4 + k; omega))
  rw [Cert.ReferenceIdeal.Corner.out_apply, Fin.sum_univ_three]
  exact congrArg₂ (· + ·) (congrArg₂ (· + ·) (congrArg₂ (· + ·) (congrArg (· * _) (c 0 (by omega))) (congrArg (· * _) (c 1 (by omega))))
    (congrArg (· * _) (c 2 (by omega)))) (c 3 (by omega))

/-- The precondition at a pixel: the guide is a real number of the unit interval. -/
theorem guide_real [Cert.Pre_guide_in_unit.Facts] (hp : Cert.Pre_guide_in_unit.fn (F := Ideal) G x1 I = fun _ => 1#1) (b : Fin 4) (h w : Fin 512) :
    ∃ u : ℝ, x1 (ix3 b h w) = (u : EReal) ∧ 0 ≤ u ∧ u ≤ 1 := by
  have e := congrFun hp (ix3 b h w)
  unfold Cert.Pre_guide_in_unit.fn at e
  revert e
  pointwise
  intro e
  generalize x1 (ix3 b h w) = x at e ⊢
  have h0 : 0 ≤ x := by
    by_contra hn
    rw [decide_eq_false hn] at e
    revert e
    cases decide (x ≤ 1) <;> decide
  have h1 : x ≤ 1 := by
    by_contra hn
    rw [decide_eq_false hn] at e
    revert e
    cases decide (0 ≤ x) <;> decide
  have hb : x ≠ ⊥ := fun hx => by rw [hx] at h0; exact absurd h0 (by decide)
  have ht : x ≠ ⊤ := fun hx => by rw [hx] at h1; exact absurd h1 (by decide)
  lift x to ℝ using ⟨ht, hb⟩
  exact ⟨x, rfl, EReal.coe_nonneg.mp h0, EReal.coe_le_coe_iff.mp (h1.trans_eq EReal.coe_one.symm)⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The side condition of the precondition's one broadcast. -/
theorem pre_facts : Cert.Pre_guide_in_unit.Facts := ⟨by decide⟩

/-- Where the guide lies in the unit interval, the array that the kernel leaves is the reference's result. -/
theorem result_eq [Cert.Pre_guide_in_unit.Facts] (m : (ℓ : Loc Cert.KernelIdeal.nD Cert.KernelIdeal.τ Cert.KernelIdeal.sig) → Buf (Elt Ideal) ℓ)
    (hp : Cert.Pre_KernelIdeal_guide_in_unit m) (c : Dev Cert.KernelIdeal.nD) :
    (Cert.KernelIdeal.Gen.dats m 0 c).arrAt 4 Cert.KernelIdeal.cfg0.N
      = Cert.ReferenceIdeal.Read.val_main_v532 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  funext i
  obtain ⟨b, o, h, w, rfl⟩ : ∃ (b : Fin 4) (o : Fin 3) (h w : Fin 512), i = ix4 b o h w := ⟨i 0, i 1, i 2, i 3, funext fun
    | 0 => rfl
    | 1 => rfl
    | 2 => rfl
    | 3 => rfl⟩
  obtain ⟨u, hu, h0, h1⟩ := Cert.Equation.guide_real _ _ _ (hp c) b h w
  exact (Cert.KernelIdeal.Pixels.result_apply m c b o h w u hu).trans (Cert.Equation.value_eq _ _ _ b o h w u hu h0 h1)

/-- The reference's frame: its run keeps the arguments, and it declares no semaphore. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Kernel and reference leave the same array, on every device, where the guide lies in the unit interval. -/
theorem same_function [Cert.Pre_guide_in_unit.Facts] : Cert.algebraic_KernelIdeal_ReferenceIdeal_pre_guide_in_unit := by
  intro m g m' g' hp hargs
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  refine (Cert.ReferenceIdeal.Read.val_main_v532_eq (F := Ideal) (StableHlo.launchContents m' c)).trans ?_
  refine Eq.trans ?_ (result_eq m hp c).symm
  obtain ⟨e0, e1, e2⟩ := hargs c
  exact congr (congrArg₂ (Cert.ReferenceIdeal.Read.val_main_v532 (F := Ideal)) e0 e1) e2

/-- The whole claim: the frames, with and without the precondition, the ideal program's, and the equality of the values. -/
theorem claim : Cert.Claim :=
  haveI := pre_facts
  ⟨Cert.Kernel.Gen.facts, Cert.KernelIdeal.Gen.facts, Cert.ReferenceIdeal.Gen.facts, pre_facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    same_function⟩

end Cert.Proof

end
